-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "far" .f32 0x7149F2CA#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x4096x3 : Shape := ⟨3, ![2, 4096, 3]⟩
abbrev S_ : Shape := ⟨0, ![]⟩

class Facts : Prop where
  bcast_S_S2x4096x3 : S_.BroadcastsInDim S2x4096x3 (![] : Fin 0 → Fin S2x4096x3.rank)
  reducesTo_S2x4096x3_S_d0_1_2 : S2x4096x3.ReducesTo [0, 1, 2] S_
  h_S_ : 0 < S_.numel

variable [Facts]

def fn {F : FTy → Type} [FloatOps F] (main_arg0 : FVec F S2x4096x3 .f32) (main_arg1 : FVec F S2x4096x3 .f32) : IVec S_ 1 :=
  let main_v0 : FVec F S2x4096x3 .f32 := Host.absf main_arg0
  let main_cst : FVec F S_ .f32 := constant S_ .f32 0x7F800000#32
  let main_v1 : FVec F S2x4096x3 .f32 := broadcastInDim S2x4096x3 ![] bcast_S_S2x4096x3 main_cst
  let main_v2 : IVec S2x4096x3 1 := cmpf .olt main_v0 main_v1
  let main_c : IVec S_ 1 := constantI S_ 1 1#1
  let main_v3 : IVec S_ 1 := (fun x v => Host.reduce IntOp.andi x v reducesTo_S2x4096x3_S_d0_1_2 h_S_) main_v2 main_c
  let main_v4 : FVec F S2x4096x3 .f32 := Host.absf main_arg1
  let main_cst_0 : FVec F S_ .f32 := constant S_ .f32 0x7F800000#32
  let main_v5 : FVec F S2x4096x3 .f32 := broadcastInDim S2x4096x3 ![] bcast_S_S2x4096x3 main_cst_0
  let main_v6 : IVec S2x4096x3 1 := cmpf .olt main_v4 main_v5
  let main_c_1 : IVec S_ 1 := constantI S_ 1 1#1
  let main_v7 : IVec S_ 1 := (fun x v => Host.reduce IntOp.andi x v reducesTo_S2x4096x3_S_d0_1_2 h_S_) main_v6 main_c_1
  let main_v8 : IVec S_ 1 := andi main_v3 main_v7
  main_v8
-- ==== Kernel.lean ====
abbrev S2x4096x3 : Shape := ⟨3, ![2, 4096, 3]⟩
abbrev S2x3x4096 : Shape := ⟨3, ![2, 3, 4096]⟩
abbrev S2x1x8 : Shape := ⟨3, ![2, 1, 8]⟩
abbrev S1x3x4096 : Shape := ⟨3, ![1, 3, 4096]⟩
abbrev S1x4096x3 : Shape := ⟨3, ![1, 4096, 3]⟩
abbrev S1x1x8 : Shape := ⟨3, ![1, 1, 8]⟩
abbrev S3x4096 : Shape := ⟨2, ![3, 4096]⟩
abbrev S1x1024 : Shape := ⟨2, ![1, 1024]⟩
abbrev S3x1024 : Shape := ⟨2, ![3, 1024]⟩
abbrev S1x512x1 : Shape := ⟨3, ![1, 512, 1]⟩
abbrev S512x1 : Shape := ⟨2, ![512, 1]⟩
abbrev S1x512x3 : Shape := ⟨3, ![1, 512, 3]⟩
abbrev S512x3 : Shape := ⟨2, ![512, 3]⟩
abbrev S512x1024 : Shape := ⟨2, ![512, 1024]⟩
abbrev S1024 : Shape := ⟨1, ![1024]⟩
abbrev S1x3x512 : Shape := ⟨3, ![1, 3, 512]⟩
abbrev S3x512 : Shape := ⟨2, ![3, 512]⟩
abbrev S1x4096 : Shape := ⟨2, ![1, 4096]⟩
abbrev S1 : Shape := ⟨1, ![1]⟩
abbrev S1x1 : Shape := ⟨2, ![1, 1]⟩
abbrev S3x3 : Shape := ⟨2, ![3, 3]⟩
abbrev S4x4 : Shape := ⟨2, ![4, 4]⟩
abbrev S1x4 : Shape := ⟨2, ![1, 4]⟩
abbrev S4x1 : Shape := ⟨2, ![4, 1]⟩
abbrev S4 : Shape := ⟨1, ![4]⟩
abbrev S1x1x4096 : Shape := ⟨3, ![1, 1, 4096]⟩
abbrev S1x8 : Shape := ⟨2, ![1, 8]⟩
abbrev S2x1x7 : Shape := ⟨3, ![2, 1, 7]⟩
abbrev S2x7 : Shape := ⟨2, ![2, 7]⟩

abbrev nBuf : Space → Nat
  | .hbm => 7
  | .vmem => 10
  | .smem => 0
  | _ => 0

abbrev bufTy : (tb : Table) → Fin (tcTables nBuf tb) → BufTy
  | .hbm, ⟨0, _⟩ => ⟨S2x4096x3, .f32⟩
  | .hbm, ⟨1, _⟩ => ⟨S2x4096x3, .f32⟩
  | .hbm, ⟨2, _⟩ => ⟨S2x3x4096, .f32⟩
  | .hbm, ⟨3, _⟩ => ⟨S2x3x4096, .f32⟩
  | .hbm, ⟨4, _⟩ => ⟨S2x1x8, .f32⟩
  | .hbm, ⟨5, _⟩ => ⟨S2x1x7, .f32⟩
  | .hbm, ⟨6, _⟩ => ⟨S2x7, .f32⟩
  | .local _ .vmem, ⟨0, _⟩ => ⟨S1x3x4096, .f32⟩
  | .local _ .vmem, ⟨1, _⟩ => ⟨S1x3x4096, .f32⟩
  | .local _ .vmem, ⟨2, _⟩ => ⟨S1x4096x3, .f32⟩
  | .local _ .vmem, ⟨3, _⟩ => ⟨S1x4096x3, .f32⟩
  | .local _ .vmem, ⟨4, _⟩ => ⟨S1x3x4096, .f32⟩
  | .local _ .vmem, ⟨5, _⟩ => ⟨S1x3x4096, .f32⟩
  | .local _ .vmem, ⟨6, _⟩ => ⟨S1x1x8, .f32⟩
  | .local _ .vmem, ⟨7, _⟩ => ⟨S1x1x8, .f32⟩
  | .local _ .vmem, ⟨8, _⟩ => ⟨S3x4096, .f32⟩
  | .local _ .vmem, ⟨9, _⟩ => ⟨S3x4096, .f32⟩
  | _, _ => ⟨S2x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c10_i32 : BitVec 32 := 10#32
  let v5 : BitVec 32 := Scalar.addi c0_i32 c10_i32
  let c1_i32 : BitVec 32 := 1#32
  ⟨c0_i32, v5, c1_i32⟩
@[reducible] def k0_t2_loop : Scf.Loop 32 :=
  let c0_i32_123 : BitVec 32 := 0#32
  let c4_i32_124 : BitVec 32 := 4#32
  let v442 : BitVec 32 := Scalar.addi c0_i32_123 c4_i32_124
  let c1_i32_125 : BitVec 32 := 1#32
  ⟨c0_i32_123, v442, c1_i32_125⟩
def k0_off1 (k0_t2 : Fin k0_t2_loop.trips) : Fin 2 → Nat :=
  let c0_267 : Index := 0#32
  let c0_i32_123 : BitVec 32 := 0#32
  let c1_i32_125 : BitVec 32 := 1#32
  let arg8 : BitVec 32 := Scf.iv c0_i32_123 c1_i32_125 k0_t2
  let c1024_i32 : BitVec 32 := 1024#32
  let v921 : BitVec 32 := Scalar.muli arg8 c1024_i32
  let v922 : Index := Scalar.indexCast v921
  ![0, v922.toNat]
def k0_off2 (k0_t2 : Fin k0_t2_loop.trips) : Fin 2 → Nat :=
  let c1_268 : Index := 1#32
  let c0_i32_123 : BitVec 32 := 0#32
  let c1_i32_125 : BitVec 32 := 1#32
  let arg8 : BitVec 32 := Scf.iv c0_i32_123 c1_i32_125 k0_t2
  let c1024_i32 : BitVec 32 := 1024#32
  let v921 : BitVec 32 := Scalar.muli arg8 c1024_i32
  let v924 : Index := Scalar.indexCast v921
  ![1, v924.toNat]
def k0_off3 (k0_t2 : Fin k0_t2_loop.trips) : Fin 2 → Nat :=
  let c2_269 : Index := 2#32
  let c0_i32_123 : BitVec 32 := 0#32
  let c1_i32_125 : BitVec 32 := 1#32
  let arg8 : BitVec 32 := Scf.iv c0_i32_123 c1_i32_125 k0_t2
  let c1024_i32 : BitVec 32 := 1024#32
  let v921 : BitVec 32 := Scalar.muli arg8 c1024_i32
  let v926 : Index := Scalar.indexCast v921
  ![2, v926.toNat]
def k0_off4 (k0_t2 : Fin k0_t2_loop.trips) : Fin 2 → Nat :=
  let c0_270 : Index := 0#32
  let c0_i32_123 : BitVec 32 := 0#32
  let c1_i32_125 : BitVec 32 := 1#32
  let arg8 : BitVec 32 := Scf.iv c0_i32_123 c1_i32_125 k0_t2
  let c1024_i32 : BitVec 32 := 1024#32
  let v921 : BitVec 32 := Scalar.muli arg8 c1024_i32
  let v928 : Index := Scalar.indexCast v921
  ![0, v928.toNat]
@[reducible] def k0_t3_loop : Scf.Loop 32 :=
  let c0_i32_273 : BitVec 32 := 0#32
  let c8_i32 : BitVec 32 := 8#32
  let v937 : BitVec 32 := Scalar.addi c0_i32_273 c8_i32
  let c1_i32_274 : BitVec 32 := 1#32
  ⟨c0_i32_273, v937, c1_i32_274⟩
def k0_off5 (k0_t3 : Fin k0_t3_loop.trips) : Fin 3 → Nat :=
  let c0_277 : Index := 0#32
  let c0_i32_273 : BitVec 32 := 0#32
  let c1_i32_274 : BitVec 32 := 1#32
  let arg9 : BitVec 32 := Scf.iv c0_i32_273 c1_i32_274 k0_t3
  let c512_i32 : BitVec 32 := 512#32
  let v943 : BitVec 32 := Scalar.muli arg9 c512_i32
  let v944 : Index := Scalar.indexCast v943
  let c0_278 : Index := 0#32
  ![0, v944.toNat, 0]
def k0_off6 (k0_t3 : Fin k0_t3_loop.trips) : Fin 3 → Nat :=
  let c0_279 : Index := 0#32
  let c0_i32_273 : BitVec 32 := 0#32
  let c1_i32_274 : BitVec 32 := 1#32
  let arg9 : BitVec 32 := Scf.iv c0_i32_273 c1_i32_274 k0_t3
  let c512_i32 : BitVec 32 := 512#32
  let v943 : BitVec 32 := Scalar.muli arg9 c512_i32
  let v947 : Index := Scalar.indexCast v943
  let c1_280 : Index := 1#32
  ![0, v947.toNat, 1]
def k0_off7 (k0_t3 : Fin k0_t3_loop.trips) : Fin 3 → Nat :=
  let c0_281 : Index := 0#32
  let c0_i32_273 : BitVec 32 := 0#32
  let c1_i32_274 : BitVec 32 := 1#32
  let arg9 : BitVec 32 := Scf.iv c0_i32_273 c1_i32_274 k0_t3
  let c512_i32 : BitVec 32 := 512#32
  let v943 : BitVec 32 := Scalar.muli arg9 c512_i32
  let v950 : Index := Scalar.indexCast v943
  let c2_282 : Index := 2#32
  ![0, v950.toNat, 2]
def k0_off8 (k0_t3 : Fin k0_t3_loop.trips) : Fin 3 → Nat :=
  let c0_283 : Index := 0#32
  let c0_i32_273 : BitVec 32 := 0#32
  let c1_i32_274 : BitVec 32 := 1#32
  let arg9 : BitVec 32 := Scf.iv c0_i32_273 c1_i32_274 k0_t3
  let c512_i32 : BitVec 32 := 512#32
  let v943 : BitVec 32 := Scalar.muli arg9 c512_i32
  let v953 : Index := Scalar.indexCast v943
  let c0_284 : Index := 0#32
  ![0, v953.toNat, 0]
def k0_off9 (k0_t3 : Fin k0_t3_loop.trips) : Fin 3 → Nat :=
  let c0_293 : Index := 0#32
  let c0_294 : Index := 0#32
  let c0_i32_273 : BitVec 32 := 0#32
  let c1_i32_274 : BitVec 32 := 1#32
  let arg9 : BitVec 32 := Scf.iv c0_i32_273 c1_i32_274 k0_t3
  let c512_i32 : BitVec 32 := 512#32
  let v943 : BitVec 32 := Scalar.muli arg9 c512_i32
  let v991 : Index := Scalar.indexCast v943
  ![0, 0, v991.toNat]
@[reducible] def k0_t4_loop : Scf.Loop 32 :=
  let c0_i32_209 : BitVec 32 := 0#32
  let c6_i32_210 : BitVec 32 := 6#32
  let v705 : BitVec 32 := Scalar.addi c0_i32_209 c6_i32_210
  let c1_i32_211 : BitVec 32 := 1#32
  ⟨c0_i32_209, v705, c1_i32_211⟩
@[reducible] def k0_t5_loop : Scf.Loop 32 :=
  let c0_i32_84 : BitVec 32 := 0#32
  let c6_i32 : BitVec 32 := 6#32
  let v271 : BitVec 32 := Scalar.addi c0_i32_84 c6_i32
  let c1_i32_85 : BitVec 32 := 1#32
  ⟨c0_i32_84, v271, c1_i32_85⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "far" => some ⊤
  | _ => none
-- ==== ReferenceIdeal.lean ====
abbrev S2x4096x3 : Shape := ⟨3, ![2, 4096, 3]⟩
abbrev S2x3x3 : Shape := ⟨3, ![2, 3, 3]⟩
abbrev S2x1x3 : Shape := ⟨3, ![2, 1, 3]⟩
abbrev S2x4096 : Shape := ⟨2, ![2, 4096]⟩
abbrev S2x4096x1 : Shape := ⟨3, ![2, 4096, 1]⟩
abbrev S2x1x4096 : Shape := ⟨3, ![2, 1, 4096]⟩
abbrev S2x4096x4096 : Shape := ⟨3, ![2, 4096, 4096]⟩
abbrev S2x3 : Shape := ⟨2, ![2, 3]⟩
abbrev S2x1x1 : Shape := ⟨3, ![2, 1, 1]⟩
abbrev S2x4x4 : Shape := ⟨3, ![2, 4, 4]⟩
abbrev S2x4 : Shape := ⟨2, ![2, 4]⟩
abbrev S2x1x4 : Shape := ⟨3, ![2, 1, 4]⟩
abbrev S2x1 : Shape := ⟨2, ![2, 1]⟩
abbrev S2x4x1 : Shape := ⟨3, ![2, 4, 1]⟩
abbrev S2 : Shape := ⟨1, ![2]⟩
abbrev S_ : Shape := ⟨0, ![]⟩
abbrev S1 : Shape := ⟨1, ![1]⟩
abbrev S1x1x1 : Shape := ⟨3, ![1, 1, 1]⟩
abbrev S2x7 : Shape := ⟨2, ![2, 7]⟩

abbrev nBuf : Space → Nat
  | .hbm => 143
  | .vmem => 4
  | .smem => 0
  | _ => 0

abbrev hbmTy0_0 (i : Nat) : BufTy := match i % 128 with
  | 0 => ⟨S2x4096x3, .f32⟩
  | 1 => ⟨S2x4096x3, .f32⟩
  | 2 => ⟨S2x3x3, .f32⟩
  | 3 => ⟨S2x1x3, .f32⟩
  | 4 => ⟨S2x3, .f32⟩
  | 5 => ⟨S2x1x1, .f32⟩
  | 6 => ⟨S2, .f32⟩
  | 7 => ⟨S2x1x1, .f32⟩
  | 8 => ⟨S2, .f32⟩
  | 9 => ⟨S2x1x1, .f32⟩
  | 10 => ⟨S2, .f32⟩
  | 11 => ⟨S2x1x1, .f32⟩
  | 12 => ⟨S2, .f32⟩
  | 13 => ⟨S2x1x1, .f32⟩
  | 14 => ⟨S2, .f32⟩
  | 15 => ⟨S2x1x1, .f32⟩
  | 16 => ⟨S2, .f32⟩
  | 17 => ⟨S2x1x1, .f32⟩
  | 18 => ⟨S2, .f32⟩
  | 19 => ⟨S2x1x1, .f32⟩
  | 20 => ⟨S2, .f32⟩
  | 21 => ⟨S2x1x1, .f32⟩
  | 22 => ⟨S2, .f32⟩
  | 23 => ⟨S_, .f32⟩
  | 24 => ⟨S2, .f32⟩
  | 25 => ⟨S2, .f32⟩
  | 26 => ⟨S2, .f32⟩
  | 27 => ⟨S2, .f32⟩
  | 28 => ⟨S_, .f32⟩
  | 29 => ⟨S2, .f32⟩
  | 30 => ⟨S2, .f32⟩
  | 31 => ⟨S2, .f32⟩
  | 32 => ⟨S2, .f32⟩
  | 33 => ⟨S_, .f32⟩
  | 34 => ⟨S2, .f32⟩
  | 35 => ⟨S2, .f32⟩
  | 36 => ⟨S2, .f32⟩
  | 37 => ⟨S2, .f32⟩
  | 38 => ⟨S_, .f32⟩
  | 39 => ⟨S2, .f32⟩
  | 40 => ⟨S2, .f32⟩
  | 41 => ⟨S2, .f32⟩
  | 42 => ⟨S2, .f32⟩
  | 43 => ⟨S2x1, .f32⟩
  | 44 => ⟨S2x1, .f32⟩
  | 45 => ⟨S2x1, .f32⟩
  | 46 => ⟨S2x1, .f32⟩
  | 47 => ⟨S2x4, .f32⟩
  | 48 => ⟨S_, .f32⟩
  | 49 => ⟨S2x4, .f32⟩
  | 50 => ⟨S2x4, .f32⟩
  | 51 => ⟨S2x4, .f32⟩
  | 52 => ⟨S2x1, .f32⟩
  | 53 => ⟨S2, .f32⟩
  | 54 => ⟨S2, .f32⟩
  | 55 => ⟨S2, .f32⟩
  | 56 => ⟨S2, .f32⟩
  | 57 => ⟨S2, .f32⟩
  | 58 => ⟨S2x1, .f32⟩
  | 59 => ⟨S2x1, .f32⟩
  | 60 => ⟨S2x1, .f32⟩
  | 61 => ⟨S2x1, .f32⟩
  | 62 => ⟨S2x4, .f32⟩
  | 63 => ⟨S2, .f32⟩
  | 64 => ⟨S2x1, .f32⟩
  | 65 => ⟨S2, .f32⟩
  | 66 => ⟨S2, .f32⟩
  | 67 => ⟨S2, .f32⟩
  | 68 => ⟨S2, .f32⟩
  | 69 => ⟨S2x1, .f32⟩
  | 70 => ⟨S2x1, .f32⟩
  | 71 => ⟨S2x1, .f32⟩
  | 72 => ⟨S2x1, .f32⟩
  | 73 => ⟨S2x4, .f32⟩
  | 74 => ⟨S2, .f32⟩
  | 75 => ⟨S2, .f32⟩
  | 76 => ⟨S2x1, .f32⟩
  | 77 => ⟨S2, .f32⟩
  | 78 => ⟨S2, .f32⟩
  | 79 => ⟨S2, .f32⟩
  | 80 => ⟨S2x1, .f32⟩
  | 81 => ⟨S2x1, .f32⟩
  | 82 => ⟨S2x1, .f32⟩
  | 83 => ⟨S2x1, .f32⟩
  | 84 => ⟨S2x4, .f32⟩
  | 85 => ⟨S2, .f32⟩
  | 86 => ⟨S2, .f32⟩
  | 87 => ⟨S2, .f32⟩
  | 88 => ⟨S2x1, .f32⟩
  | 89 => ⟨S2, .f32⟩
  | 90 => ⟨S2, .f32⟩
  | 91 => ⟨S2x1, .f32⟩
  | 92 => ⟨S2x1, .f32⟩
  | 93 => ⟨S2x1, .f32⟩
  | 94 => ⟨S2x1, .f32⟩
  | 95 => ⟨S2x4, .f32⟩
  | 96 => ⟨S2x1x4, .f32⟩
  | 97 => ⟨S2x1x4, .f32⟩
  | 98 => ⟨S2x1x4, .f32⟩
  | 99 => ⟨S2x1x4, .f32⟩
  | 100 => ⟨S2x4x4, .f32⟩
  | 101 => ⟨S_, .f32⟩
  | 102 => ⟨S2x4, .f32⟩
  | 103 => ⟨S2x4, .f32⟩
  | 104 => ⟨S2x4x1, .f32⟩
  | 105 => ⟨S_, .f32⟩
  | 106 => ⟨S2x4x1, .f32⟩
  | 107 => ⟨S2x4x1, .f32⟩
  | 108 => ⟨S2x4x4, .f32⟩
  | 109 => ⟨S2x4x4, .f32⟩
  | 110 => ⟨S2x4, .i32⟩
  | 111 => ⟨S_, .f32⟩
  | 112 => ⟨S_, .i32⟩
  | 113 => ⟨S2, .f32⟩
  | 114 => ⟨S2, .i32⟩
  | 115 => ⟨S2x1x1, .i32⟩
  | 116 => ⟨S_, .i32⟩
  | 117 => ⟨S2x1x1, .i32⟩
  | 118 => ⟨S2x1x1, .i1⟩
  | 119 => ⟨S_, .i32⟩
  | 120 => ⟨S2x1x1, .i32⟩
  | 121 => ⟨S2x1x1, .i32⟩
  | 122 => ⟨S2x1x1, .i32⟩
  | 123 => ⟨S1, .i32⟩
  | 124 => ⟨S_, .i32⟩
  | 125 => ⟨S2x1x1, .i32⟩
  | 126 => ⟨S2x1x1, .i1⟩
  | 127 => ⟨S1x1x1, .i32⟩
  | _ => ⟨S2x4096x3, .f32⟩

abbrev hbmTy0_1 (i : Nat) : BufTy := match i % 128 with
  | 0 => ⟨S2x1x1, .i32⟩
  | 1 => ⟨S2x1x1, .i1⟩
  | 2 => ⟨S2x1x1, .i1⟩
  | 3 => ⟨S_, .i1⟩
  | 4 => ⟨S2x1, .i1⟩
  | 5 => ⟨S2x1x4, .f32⟩
  | 6 => ⟨S2x1x4, .i1⟩
  | 7 => ⟨S_, .f32⟩
  | 8 => ⟨S2x1x4, .f32⟩
  | 9 => ⟨S2x1x4, .f32⟩
  | 10 => ⟨S2x4, .f32⟩
  | 11 => ⟨S2x3, .f32⟩
  | 12 => ⟨S2x1, .f32⟩
  | 13 => ⟨S2x4, .f32⟩
  | 14 => ⟨S2x7, .f32⟩
  | _ => ⟨S2x4096x3, .f32⟩

abbrev hbmTy (i : Nat) : BufTy := match i / 128 with
  | 0 => hbmTy0_0 i
  | 1 => hbmTy0_1 i
  | _ => ⟨S2x4096x3, .f32⟩

abbrev bufTy : (tb : Table) → Fin (tcTables nBuf tb) → BufTy
  | .hbm, ⟨i, _⟩ => hbmTy i
  | .local _ .vmem, ⟨0, _⟩ => ⟨S2x4096x3, .f32⟩
  | .local _ .vmem, ⟨1, _⟩ => ⟨S2x4096x3, .f32⟩
  | .local _ .vmem, ⟨2, _⟩ => ⟨S2x3x3, .f32⟩
  | .local _ .vmem, ⟨3, _⟩ => ⟨S2x1x3, .f32⟩
  | _, _ => ⟨S2x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_1 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_3 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_cst_4 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_cst_5 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_call0_v0 : Ref sig .tc := ⟨.hbm, 110, rfl⟩
abbrev main_call0_cst : Ref sig .tc := ⟨.hbm, 111, rfl⟩
abbrev main_call0_c : Ref sig .tc := ⟨.hbm, 112, rfl⟩
abbrev main_call0_v1_0 : Ref sig .tc := ⟨.hbm, 113, rfl⟩
abbrev main_v100 : Ref sig .tc := ⟨.hbm, 114, rfl⟩
abbrev main_v101 : Ref sig .tc := ⟨.hbm, 115, rfl⟩
abbrev main_call1_c : Ref sig .tc := ⟨.hbm, 116, rfl⟩
abbrev main_call1_v0 : Ref sig .tc := ⟨.hbm, 117, rfl⟩
abbrev main_call1_v1 : Ref sig .tc := ⟨.hbm, 118, rfl⟩
abbrev main_call1_c_0 : Ref sig .tc := ⟨.hbm, 119, rfl⟩
abbrev main_call1_v2 : Ref sig .tc := ⟨.hbm, 120, rfl⟩
abbrev main_call1_v3 : Ref sig .tc := ⟨.hbm, 121, rfl⟩
abbrev main_call1_v4 : Ref sig .tc := ⟨.hbm, 122, rfl⟩
abbrev main_call1_c_1 : Ref sig .tc := ⟨.hbm, 123, rfl⟩
abbrev main_call1_c_2 : Ref sig .tc := ⟨.hbm, 124, rfl⟩
abbrev main_call1_v5 : Ref sig .tc := ⟨.hbm, 125, rfl⟩
abbrev main_call1_v6 : Ref sig .tc := ⟨.hbm, 126, rfl⟩
abbrev main_call1_v7 : Ref sig .tc := ⟨.hbm, 127, rfl⟩
abbrev main_call1_v8 : Ref sig .tc := ⟨.hbm, 128, rfl⟩
abbrev main_call1_v9 : Ref sig .tc := ⟨.hbm, 129, rfl⟩
abbrev main_call1_v10 : Ref sig .tc := ⟨.hbm, 130, rfl⟩
abbrev main_call1_c_3 : Ref sig .tc := ⟨.hbm, 131, rfl⟩
abbrev main_call1_v11 : Ref sig .tc := ⟨.hbm, 132, rfl⟩
abbrev main_call1_v12 : Ref sig .tc := ⟨.hbm, 133, rfl⟩
abbrev main_call1_v13 : Ref sig .tc := ⟨.hbm, 134, rfl⟩
abbrev main_call1_cst : Ref sig .tc := ⟨.hbm, 135, rfl⟩
abbrev main_call1_v14 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c10_i32 : BitVec 32 := 10#32
  let v2 : BitVec 32 := Scalar.addi c0_i32 c10_i32
  let c1_i32 : BitVec 32 := 1#32
  ⟨c0_i32, v2, c1_i32⟩
@[reducible] def k0_t2_loop : Scf.Loop 32 :=
  let c0_i32_138 : BitVec 32 := 0#32
  let c6_i32_139 : BitVec 32 := 6#32
  let v552 : BitVec 32 := Scalar.addi c0_i32_138 c6_i32_139
  let c1_i32_140 : BitVec 32 := 1#32
  ⟨c0_i32_138, v552, c1_i32_140⟩
@[reducible] def k0_t3_loop : Scf.Loop 32 :=
  let c0_i32_42 : BitVec 32 := 0#32
  let c6_i32 : BitVec 32 := 6#32
  let v183 : BitVec 32 := Scalar.addi c0_i32_42 c6_i32
  let c1_i32_43 : BitVec 32 := 1#32
  ⟨c0_i32_42, v183, c1_i32_43⟩
abbrev stage0_0 : Fin 1 → Memref sig .tc .vmem S2x4096x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4096x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x3x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelLoops.lean ====
/-
  The loops of the printed kernel, as far as its frame needs them: what the buffers are while a loop runs, with nothing said
  of the values in the two scratch arrays.
-/
module

public import proofs.«01_k».proof.Proof.Gen.Kernel.Loops
public import proofs.«01_k».proof.Proof.Gen.Kernel.Frame

@[expose] public section

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources of the separation logic. -/
abbrev UU (nD : Nat) (τ : Topo) : Type := UR sig nD τ
/-- No loop variants are needed. -/
abbrev 𝒱₀ : Variants := Variants.none

local notation "𝕄" => MT nD τ sig Unit (Elt F) ℕ (UR sig nD τ) ℕ

/-- A memref's buffer at some contents. -/
abbrev Held (c : Dev nD) (M : Memref sig .tc .vmem S3x4096 .f32) : sProp 𝕄 :=
  iprop(∃ f : BufTy.Contents (Elt F) M.view.ty, M.view.loc (c : Thread nD τ) ↦[M.view.set]{fullShare} f)

set_option warn.classDefReducibility false in
/-- The source tiles of one search: the two target blocks are only read, the moved source keeps its contents, the gathered
    points hold something. -/
@[sl_loop] noncomputable def loopInv_k0_t2 (c : Dev nD) (i : grid0.Coords) (arg1 : Memref sig .tc .vmem S1x3x4096 .f32) (harg1 : arg1.IsWhole) (arg2 : Memref sig .tc .vmem S1x4096x3 .f32) (harg2 : arg2.IsWhole) (arg3 : Memref sig .tc .vmem S1x3x4096 .f32) (harg3 : arg3.IsWhole) (arg4 : Memref sig .tc .vmem S1x1x8 .f32) (harg4 : arg4.IsWhole) (arg5 : Memref sig .tc .vmem S3x4096 .f32) (harg5 : arg5.IsWhole) (arg6 : Memref sig .tc .vmem S3x4096 .f32) (harg6 : arg6.IsWhole) (c0_i32 : BitVec 32) (c1_i32 : BitVec 32) (k0_t1 : Fin k0_t1_loop.trips)
    (X2 : BufTy.Contents (Elt F) arg2.view.ty) (X3 : BufTy.Contents (Elt F) arg3.view.ty) (X5 : BufTy.Contents (Elt F) arg5.view.ty) :
    Cert.Kernel.Gen.LoopInvTy_k0_t2 (F := F) Unit ℕ (UU nD τ) ℕ 𝒱₀ c none Set.univ i arg1 harg1 arg2 harg2 arg3 harg3 arg4 harg4 arg5 harg5 arg6 harg6 c0_i32 c1_i32 k0_t1 where
  inv := fun _ _ => iprop((arg2.view.loc (c : Thread nD τ) ↦[arg2.view.set]{fullShare} X2)
    ∗ (arg3.view.loc (c : Thread nD τ) ↦[arg3.view.set]{fullShare} X3)
    ∗ (arg5.view.loc (c : Thread nD τ) ↦[arg5.view.set]{fullShare} X5) ∗ Held (F := F) c arg6)
  step := fun k acc => by
    unfold Gen.k0_t2_body
    iintro ⟨H2, H3, H5, ⟨%f6, H6⟩⟩
    sl_exec
    sl_step
    sl_close

set_option warn.classDefReducibility false in
/-- The sweeps of an iteration touch no buffer. -/
@[sl_loop] noncomputable def loopInv_k0_t4 (c : Dev nD) (i : grid0.Coords) (arg1 : Memref sig .tc .vmem S1x3x4096 .f32) (harg1 : arg1.IsWhole) (arg2 : Memref sig .tc .vmem S1x4096x3 .f32) (harg2 : arg2.IsWhole) (arg3 : Memref sig .tc .vmem S1x3x4096 .f32) (harg3 : arg3.IsWhole) (arg4 : Memref sig .tc .vmem S1x1x8 .f32) (harg4 : arg4.IsWhole) (arg5 : Memref sig .tc .vmem S3x4096 .f32) (harg5 : arg5.IsWhole) (arg6 : Memref sig .tc .vmem S3x4096 .f32) (harg6 : arg6.IsWhole) (v520 : IVec S4x4 32) (v521 : IVec S4x4 32) (v539 : FVec F S1x1 .f32) (v540 : FVec F S1x1 .f32) (v660 : FVec F S4x4 .f32) (v665 : IVec S4x4 1) (init : FVec F S4x4 .f32 × FVec F S4x4 .f32) :
    Cert.Kernel.Gen.LoopInvTy_k0_t4 (F := F) Unit ℕ (UU nD τ) ℕ 𝒱₀ c none Set.univ i arg1 harg1 arg2 harg2 arg3 harg3 arg4 harg4 arg5 harg5 arg6 harg6 v520 v521 v539 v540 v660 v665 init where
  inv := fun _ _ => iprop(⌜True⌝)
  step := fun k acc => by
    unfold Gen.k0_t4_body
    iintro H
    sl_exec
    sl_step
    sl_close

set_option warn.classDefReducibility false in
/-- The sweeps of the final alignment touch no buffer. -/
@[sl_loop] noncomputable def loopInv_k0_t5 (c : Dev nD) (i : grid0.Coords) (arg1 : Memref sig .tc .vmem S1x3x4096 .f32) (harg1 : arg1.IsWhole) (arg2 : Memref sig .tc .vmem S1x4096x3 .f32) (harg2 : arg2.IsWhole) (arg3 : Memref sig .tc .vmem S1x3x4096 .f32) (harg3 : arg3.IsWhole) (arg4 : Memref sig .tc .vmem S1x1x8 .f32) (harg4 : arg4.IsWhole) (arg5 : Memref sig .tc .vmem S3x4096 .f32) (harg5 : arg5.IsWhole) (arg6 : Memref sig .tc .vmem S3x4096 .f32) (harg6 : arg6.IsWhole) (v86 : IVec S4x4 32) (v87 : IVec S4x4 32) (v256 : FVec F S4x4 .f32) (v265 : FVec F S4x4 .f32) (init : FVec F S4x4 .f32 × FVec F S4x4 .f32) :
    Cert.Kernel.Gen.LoopInvTy_k0_t5 (F := F) Unit ℕ (UU nD τ) ℕ 𝒱₀ c none Set.univ i arg1 harg1 arg2 harg2 arg3 harg3 arg4 harg4 arg5 harg5 arg6 harg6 v86 v87 v256 v265 init where
  inv := fun _ _ => iprop(⌜True⌝)
  step := fun k acc => by
    unfold Gen.k0_t5_body
    iintro H
    sl_exec
    sl_step
    sl_close

set_option warn.classDefReducibility false in
/-- The ten iterations: both scratch arrays hold something. -/
@[sl_loop] noncomputable def loopInv_k0_t1 (c : Dev nD) (i : grid0.Coords) (arg1 : Memref sig .tc .vmem S1x3x4096 .f32) (harg1 : arg1.IsWhole) (arg2 : Memref sig .tc .vmem S1x4096x3 .f32) (harg2 : arg2.IsWhole) (arg3 : Memref sig .tc .vmem S1x3x4096 .f32) (harg3 : arg3.IsWhole) (arg4 : Memref sig .tc .vmem S1x1x8 .f32) (harg4 : arg4.IsWhole) (arg5 : Memref sig .tc .vmem S3x4096 .f32) (harg5 : arg5.IsWhole) (arg6 : Memref sig .tc .vmem S3x4096 .f32) (harg6 : arg6.IsWhole)
    (X2 : BufTy.Contents (Elt F) arg2.view.ty) (X3 : BufTy.Contents (Elt F) arg3.view.ty) :
    Cert.Kernel.Gen.LoopInvTy_k0_t1 (F := F) Unit ℕ (UU nD τ) ℕ 𝒱₀ c none Set.univ i arg1 harg1 arg2 harg2 arg3 harg3 arg4 harg4 arg5 harg5 arg6 harg6 where
  inv := fun _ _ => iprop((arg2.view.loc (c : Thread nD τ) ↦[arg2.view.set]{fullShare} X2)
    ∗ (arg3.view.loc (c : Thread nD τ) ↦[arg3.view.set]{fullShare} X3)
    ∗ Held (F := F) c arg5 ∗ Held (F := F) c arg6)
  step := fun k acc => by
    unfold Gen.k0_t1_body
    iintro ⟨H2, H3, ⟨%f5, H5⟩, ⟨%f6, H6⟩⟩
    sl_exec
    sl_step
    sl_close

/-- One block: from the three input blocks at given contents, and the result block and the two scratch arrays at any, the body
    runs to its end with the input blocks as they were. -/
theorem body_runs (c : Dev nD) (i : grid0.Coords) (arg1 : Memref sig .tc .vmem S1x3x4096 .f32) (harg1 : arg1.IsWhole) (arg2 : Memref sig .tc .vmem S1x4096x3 .f32) (harg2 : arg2.IsWhole) (arg3 : Memref sig .tc .vmem S1x3x4096 .f32) (harg3 : arg3.IsWhole) (arg4 : Memref sig .tc .vmem S1x1x8 .f32) (harg4 : arg4.IsWhole) (arg5 : Memref sig .tc .vmem S3x4096 .f32) (harg5 : arg5.IsWhole) (arg6 : Memref sig .tc .vmem S3x4096 .f32) (harg6 : arg6.IsWhole)
    (x1 : Vec F S1x3x4096 .f32) (x2 : Vec F S1x4096x3 .f32) (x3 : Vec F S1x3x4096 .f32) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg4 fullShare d) ∗ Held (F := F) c arg5 ∗ Held (F := F) c arg6
        ∗ (iprop(owns (c : Thread nD τ) arg1 fullShare x1 ∗ owns (c : Thread nD τ) arg2 fullShare x2 ∗ owns (c : Thread nD τ) arg3 fullShare x3
            ∗ (∃ d, owns (c : Thread nD τ) arg4 fullShare d) ∗ Held (F := F) c arg5 ∗ Held (F := F) c arg6) -∗ K ⟨⟩))
      ⊢ wp frame (wpE (defs₀ (F := F)) 𝒱₀ (c : Thread nD τ) none) Set.univ (cc0__icp_body (F := F) i arg1 harg1 arg2 harg2 arg3 harg3 arg4 harg4 arg5 harg5 arg6 harg6) K := by
  unfold owns
  iintro ⟨⟨%f1, %hf1, H1⟩, ⟨%f2, %hf2, H2⟩, ⟨%f3, %hf3, H3⟩, ⟨%d4, %f4, -, H4⟩, ⟨%f5, H5⟩, ⟨%f6, H6⟩, Hk⟩
  obtain rfl := harg1.eq_unread hf1; obtain rfl := harg2.eq_unread hf2; obtain rfl := harg3.eq_unread hf3
  rw [Gen.cc0__icp_body_eq_skeleton]
  unfold Gen.cc0__icp_body_skel
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; iexists _; isplitr; swap; · iexact H4
    ipureintro; rfl
  isplitl [H5]; · iexists _; iexact H5
  iexists _; iexact H6

end Cert.Proof.Kernel

end
-- ==== Proof.KernelFrame.lean ====
/-
  The frame of the printed kernel: every run of the whole program ends, with its two arguments as they were and every
  semaphore at zero. Nothing is said here of the result.
-/
module

public import proofs.«01_k».proof.Proof.KernelLoops
public import Idealize.ShloMosaic.Lib.Quiescent

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one window of which nothing is said: the result's. -/
def forgets : Fin 4 → Bool := ![false, false, false, true]

/-- The arrays as the region finds them; each input's block stays in its staging buffer; the result's is not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Pipeline.Dat.unnamed (cfg := cfg0) 3 t
  Φ _ := Pipeline.ΦA spec0 c
  q _ := fullShare
  owed _ := 0

/-- Each window's array at the region's entry. -/
theorem A_eq (c : Dev nD) (w : Fin cfg0.W) : (dats m 0 c).A w = V m c (Pipeline.arrRef spec0 w) := rfl
/-- The first input's block is left as it was. -/
theorem after0_0 (c : Dev nD) (t : Fin cfg0.N) : (dats m 0 c).after 0 t = iblk m c 0 t := by dsimp only [dats]
/-- The second input's block is left as it was. -/
theorem after0_1 (c : Dev nD) (t : Fin cfg0.N) : (dats m 0 c).after 1 t = iblk m c 1 t := by dsimp only [dats]
/-- The third input's block is left as it was. -/
theorem after0_2 (c : Dev nD) (t : Fin cfg0.N) : (dats m 0 c).after 2 t = iblk m c 2 t := by dsimp only [dats]
/-- What the body finds in the first input's block. -/
theorem before0_0 (c : Dev nD) (t : Fin cfg0.N) (d) : (dats m 0 c).before 0 t d = iblk m c 0 t :=
  before0_0_of m (dats m 0 c) (A_eq m c 0) (after0_0 m c) t d
/-- What the body finds in the second input's block. -/
theorem before0_1 (c : Dev nD) (t : Fin cfg0.N) (d) : (dats m 0 c).before 1 t d = iblk m c 1 t :=
  before0_1_of m (dats m 0 c) (A_eq m c 1) (after0_1 m c) t d
/-- What the body finds in the third input's block. -/
theorem before0_2 (c : Dev nD) (t : Fin cfg0.N) (d) : (dats m 0 c).before 2 t d = iblk m c 2 t :=
  before0_2_of m (dats m 0 c) (A_eq m c 2) (after0_2 m c) t d

/-- The region's scratch: the two arrays and the generator register. -/
theorem scratch_eq (c : Dev nD) : (Pipeline.ΦA spec0 c : sProp 𝕄)
    = iprop((Held (F := F) c (Memref.whole cc0_scratch0) ∗ Held (F := F) c (Memref.whole cc0_scratch1)) ∗ ∃ r, prngReg c r) := by
  unfold Pipeline.ΦA
  rw [scopedRest0_eq]
  simp only [Held, Memref.view_whole, View.set_whole]

/-- One grid point. -/
theorem body_obligation (c : Dev nD) :
    Pipeline.BodyObligationLoose (dats (F := F) m 0 c) (defs₀ (F := F)) 𝒱₀ () Set.univ forgets := fun t => by
  rw [bigSep_W0, bigSep_W0]
  sl_whnfR [defs₀, Defs.onTc]
  simp only [before0_0, before0_1, before0_2, show forgets 0 = false from rfl, show forgets 1 = false from rfl,
    show forgets 2 = false from rfl, show forgets 3 = true from rfl]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, scratch_eq]
  iintro ⟨⟨⟨H5, H6⟩, Hg⟩, Ho, ⟨%d0, H1⟩, ⟨%d1, H2⟩, ⟨%d2, H3⟩, ⟨%d3, H4⟩⟩
  iapply (body_runs (F := F) c _ _ _ _ _ _ _ _ _ _ _ _ _ (iblk m c 0 t) (iblk m c 1 t) (iblk m c 2 t) _)
  isplitl [H1]; · iexact H1
  isplitl [H2]; · iexact H2
  isplitl [H3]; · iexact H3
  isplitl [H4]; · iexists _; iexact H4
  isplitl [H5]; · iexact H5
  isplitl [H6]; · iexact H6
  iintro ⟨H1, H2, H3, H4, H5, H6⟩
  isplitl [H5 H6 Hg]
  · isplitl [H5 H6]
    · isplitl [H5]; · iexact H5
      iexact H6
    iexact Hg
  isplitl [Ho]; · iexact Ho
  isplitl [H1]; · iexact H1
  isplitl [H2]; · iexact H2
  isplitl [H3]; · iexact H3
  iexact H4

/-- The buffers the lines after the region write. -/
def tailWrites : Finset (Ref sig .tc) := {main_v3, main_v4}

/-- The operations after the region write only the listed buffers. -/
theorem tail_sub : ∀ ops ∈ ([hostOps1] : List (List (HloOp τ sig (Elt F)))), ∀ op ∈ ops,
    ∀ b : Ref sig .tc, Proc.devRef .tc b ∈ op.writes → b ∈ tailWrites := by
  intro ops hops op hop b hb
  simp only [List.mem_cons, List.mem_nil_iff, or_false] at hops
  rcases hops with rfl
  simp only [hostOps1, List.mem_cons, List.mem_nil_iff, or_false] at hop
  rcases hop with rfl | rfl
  all_goals
    simp only [StableHlo.unary_writes, StableHlo.reshape_writes, Finset.mem_singleton] at hb
    rw [Proc.devRef_injective _ hb]; decide

set_option backward.isDefEq.respectTransparency.types false in
/-- The whole program runs to its end. -/
theorem run_main : θ_run defs (onTc (τ := τ) (main (F := F))) (s₀ m ρ)
    (fun r => Pipeline.RDat.FramePostR (cfgs 0) (fun c => (dats m 0 c).toRForget forgets) tailWrites
      (fun c b => V0 m c (Proc.devRef .tc b)) r ∧ r.2.sem = fun _ => 0) :=
  Pipeline.θ_run_frame_around_T_forget (Q' := _) cfgs (dats m) (0 : Fin 1) launch0 defs₀ 𝒱₀ forgets tailWrites m ρ main
    (hbody := body_obligation m) (hshare := fun c => (dats m 0 c).share_full fun _ => rfl)
    (howed := fun _ _ => rfl) (V₀ := V0 m) (opss := [hostOps1]) (hsub := sfx_sub) (hfresh := sfx_fresh)
    (hkeep := sfx_keeps) (hT := tail_sub) (hmain := hmain m 𝒱₀) (hA := fun _ _ => rfl) (hΦ := fun _ _ => rfl)

/-- Its two arguments end as they were, its semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c =>
    ⟨((h.1 c).2 main_arg0 (Finset.mem_sdiff.mpr ⟨Pipeline.mem_restRefs_of main_arg0 (by decide) (by decide), by decide⟩)).trans (V_main_arg0 m c),
      (h.1.arr_in c 1 rfl).trans (V_main_arg1 m c)⟩, h.2⟩) (run_main m ρ)

end Cert.Proof.Kernel

end
-- ==== Proof.KernelRot.lean ====
/-
  The kernel's plane rotations as functions of a pair of indices, and its sweep of six of them: the printed loop bodies of both
  alignments are that sweep.
-/
module

public import proofs.«01_k».proof.Proof.Gen.KernelIdeal.Loops
public import proofs.«01_k».proof.Proof.Gen.KernelIdeal.Frame

@[expose] public section

noncomputable section

namespace Cert.Proof.KernelIdeal

open Cert.KernelIdeal Cert.KernelIdeal.Gen
open Idealize.ShloMosaic Idealize.ShloMosaic.TcCoe Idealize.ShloMosaic.Tactic

variable {F : FTy → Type} [FloatOps F]

/-- The slices a rotation in the plane of `p` and `q` reads off a four by four array. -/
structure Pair (p q : ℕ) : Prop where
  pp : S4x4.Slices ![p, p] S1x1
  qq : S4x4.Slices ![q, q] S1x1
  pq : S4x4.Slices ![p, q] S1x1
  rp : S4x4.Slices ![p, 0] S1x4
  rq : S4x4.Slices ![q, 0] S1x4
  cp : S4x4.Slices ![0, p] S4x1
  cq : S4x4.Slices ![0, q] S4x1

/-- One. -/
abbrev one11 : FVec F S1x1 .f32 := broadcast S1x1 (Scalar.ofBits .f32 0x3F800000#32)
/-- Zero. -/
abbrev zero11 : FVec F S1x1 .f32 := broadcast S1x1 (Scalar.ofBits .f32 0x00000000#32)
/-- Two. -/
abbrev two11 : FVec F S1x1 .f32 := broadcast S1x1 (Scalar.ofBits .f32 0x40000000#32)
/-- Minus one. -/
abbrev neg11 : FVec F S1x1 .f32 := broadcast S1x1 (Scalar.ofBits .f32 0xBF800000#32)

/-- The rotation's `τ`. -/
def kTau (app aqq apq : FVec F S1x1 .f32) : FVec F S1x1 .f32 :=
  divf (subf aqq app) (mulf two11 (select (cmpf .oeq apq zero11) one11 apq))

/-- The tangent of the rotation's angle. -/
def kTan (app aqq apq : FVec F S1x1 .f32) : FVec F S1x1 .f32 :=
  select (cmpf .oeq apq zero11) zero11 (select (cmpf .oeq (kTau app aqq apq) zero11) one11
    (divf (select (cmpf .olt (kTau app aqq apq) zero11) neg11 one11)
      (addf (absf (kTau app aqq apq)) (sqrt (addf one11 (mulf (kTau app aqq apq) (kTau app aqq apq)))))))

/-- Its cosine. -/
def kCos (t : FVec F S1x1 .f32) : FVec F S1x1 .f32 := divf one11 (sqrt (addf one11 (mulf t t)))

/-- Its sine. -/
def kSin (t : FVec F S1x1 .f32) : FVec F S1x1 .f32 := mulf t (kCos t)

/-- The tangent that brings the entry `p q` of `A` to zero. -/
def kTanOf (p q : ℕ) (h : Pair p q) (A : FVec F S4x4 .f32) : FVec F S1x1 .f32 :=
  kTan (extractStridedSlice S1x1 ![p, p] A h.pp) (extractStridedSlice S1x1 ![q, q] A h.qq) (extractStridedSlice S1x1 ![p, q] A h.pq)

/-- Row `p` becomes `c` times row `p` less `s` times row `q`, row `q` becomes `s` times row `p` and `c` times row `q`. -/
def kRows (p q : ℕ) (h : Pair p q) (ri : IVec S4x4 32) (c s : FVec F S1x1 .f32) (A : FVec F S4x4 .f32) : FVec F S4x4 .f32 :=
  let rp := subf (mulf (broadcastTo S1x4 c broadcasts_S1x1_S1x4) (extractStridedSlice S1x4 ![p, 0] A h.rp))
    (mulf (broadcastTo S1x4 s broadcasts_S1x1_S1x4) (extractStridedSlice S1x4 ![q, 0] A h.rq))
  let rq := addf (mulf (broadcastTo S1x4 s broadcasts_S1x1_S1x4) (extractStridedSlice S1x4 ![p, 0] A h.rp))
    (mulf (broadcastTo S1x4 c broadcasts_S1x1_S1x4) (extractStridedSlice S1x4 ![q, 0] A h.rq))
  select (cmpi .eq ri (broadcast S4x4 (BitVec.ofNat 32 q))) (broadcastTo S4x4 (shapeCast S1x4 rq shapeCasts_S1x4_S1x4) broadcasts_S1x4_S4x4)
    (select (cmpi .eq ri (broadcast S4x4 (BitVec.ofNat 32 p))) (broadcastTo S4x4 (shapeCast S1x4 rp shapeCasts_S1x4_S1x4) broadcasts_S1x4_S4x4) A)

/-- The same of the columns. -/
def kCols (p q : ℕ) (h : Pair p q) (ci : IVec S4x4 32) (c s : FVec F S1x1 .f32) (A : FVec F S4x4 .f32) : FVec F S4x4 .f32 :=
  let cp := subf (mulf (broadcastTo S4x1 c broadcasts_S1x1_S4x1) (extractStridedSlice S4x1 ![0, p] A h.cp))
    (mulf (broadcastTo S4x1 s broadcasts_S1x1_S4x1) (extractStridedSlice S4x1 ![0, q] A h.cq))
  let cq := addf (mulf (broadcastTo S4x1 s broadcasts_S1x1_S4x1) (extractStridedSlice S4x1 ![0, p] A h.cp))
    (mulf (broadcastTo S4x1 c broadcasts_S1x1_S4x1) (extractStridedSlice S4x1 ![0, q] A h.cq))
  select (cmpi .eq ci (broadcast S4x4 (BitVec.ofNat 32 q))) (broadcastTo S4x4 (shapeCast S4x1 cq shapeCasts_S4x1_S4x1) broadcasts_S4x1_S4x4)
    (select (cmpi .eq ci (broadcast S4x4 (BitVec.ofNat 32 p))) (broadcastTo S4x4 (shapeCast S4x1 cp shapeCasts_S4x1_S4x1) broadcasts_S4x1_S4x4) A)

/-- One rotation of the pair of arrays: rows and columns of the first, columns of the second. -/
def kRot (p q : ℕ) (h : Pair p q) (ri ci : IVec S4x4 32) (AV : FVec F S4x4 .f32 × FVec F S4x4 .f32) : FVec F S4x4 .f32 × FVec F S4x4 .f32 :=
  (kCols p q h ci (kCos (kTanOf p q h AV.1)) (kSin (kTanOf p q h AV.1)) (kRows p q h ri (kCos (kTanOf p q h AV.1)) (kSin (kTanOf p q h AV.1)) AV.1),
    kCols p q h ci (kCos (kTanOf p q h AV.1)) (kSin (kTanOf p q h AV.1)) AV.2)

/-- The pair (0, 1). -/
theorem pair01 : Pair 0 1 := ⟨by decide, by decide, by decide, by decide, by decide, by decide, by decide⟩
/-- The pair (0, 2). -/
theorem pair02 : Pair 0 2 := ⟨by decide, by decide, by decide, by decide, by decide, by decide, by decide⟩
/-- The pair (0, 3). -/
theorem pair03 : Pair 0 3 := ⟨by decide, by decide, by decide, by decide, by decide, by decide, by decide⟩
/-- The pair (1, 2). -/
theorem pair12 : Pair 1 2 := ⟨by decide, by decide, by decide, by decide, by decide, by decide, by decide⟩
/-- The pair (1, 3). -/
theorem pair13 : Pair 1 3 := ⟨by decide, by decide, by decide, by decide, by decide, by decide, by decide⟩
/-- The pair (2, 3). -/
theorem pair23 : Pair 2 3 := ⟨by decide, by decide, by decide, by decide, by decide, by decide, by decide⟩

/-- The six rotations of one sweep. -/
def kSweep (ri ci : IVec S4x4 32) (AV : FVec F S4x4 .f32 × FVec F S4x4 .f32) : FVec F S4x4 .f32 × FVec F S4x4 .f32 :=
  kRot 2 3 pair23 ri ci (kRot 1 3 pair13 ri ci (kRot 1 2 pair12 ri ci (kRot 0 3 pair03 ri ci (kRot 0 2 pair02 ri ci (kRot 0 1 pair01 ri ci AV)))))

set_option maxRecDepth 65536 in
/-- One sweep of an iteration is the six rotations. -/
theorem t4_body (i : grid0.Coords) (arg1 : Memref sig .tc .vmem S1x3x4096 .f32) (harg1 : arg1.IsWhole)
    (arg2 : Memref sig .tc .vmem S1x4096x3 .f32) (harg2 : arg2.IsWhole) (arg3 : Memref sig .tc .vmem S1x3x4096 .f32) (harg3 : arg3.IsWhole)
    (arg4 : Memref sig .tc .vmem S1x1x8 .f32) (harg4 : arg4.IsWhole) (arg5 : Memref sig .tc .vmem S3x4096 .f32) (harg5 : arg5.IsWhole)
    (arg6 : Memref sig .tc .vmem S3x4096 .f32) (harg6 : arg6.IsWhole) (v520 v521 : IVec S4x4 32) (v539 v540) (v660) (v665)
    (k : Fin k0_t4_loop.trips) (AV : FVec F S4x4 .f32 × FVec F S4x4 .f32) :
    k0_t4_body i arg1 harg1 arg2 harg2 arg3 harg3 arg4 harg4 arg5 harg5 arg6 harg6 v520 v521 v539 v540 v660 v665 k AV
      = pure (kSweep v520 v521 AV) := by
  obtain ⟨A, V⟩ := AV
  unfold k0_t4_body
  simp only [k0_part14_eq_skeleton, k0_part14_skel, k0_part2_eq_skeleton, k0_part2_skel, k0_part3_eq_skeleton, k0_part3_skel,
    k0_part4_eq_skeleton, k0_part4_skel, k0_part5_eq_skeleton, k0_part5_skel, k0_part6_eq_skeleton, k0_part6_skel,
    k0_part7_eq_skeleton, k0_part7_skel, k0_part8_eq_skeleton, k0_part8_skel, k0_part9_eq_skeleton, k0_part9_skel,
    k0_part10_eq_skeleton, k0_part10_skel, k0_part11_eq_skeleton, k0_part11_skel, k0_part12_eq_skeleton, k0_part12_skel,
    k0_part13_eq_skeleton, k0_part13_skel, pure_bind]
  rfl

end Cert.Proof.KernelIdeal

end
-- ==== Proof.KernelAlign.lean ====
/-
  The kernel's alignment of two clouds as a function of their six rows, the step it makes of it, and the two printed bodies
  restated over these functions: what is not a load or a store is a value.
-/
module

public import proofs.«01_k».proof.Proof.KernelRot

@[expose] public section

noncomputable section

namespace Cert.Proof.KernelIdeal

open Cert.KernelIdeal Cert.KernelIdeal.Gen
open Idealize.ShloMosaic Idealize.ShloMosaic.TcCoe Idealize.ShloMosaic.Tactic
open Idealize.SL.Sem

variable {F : FTy → Type} [FloatOps F]

/-- The row of each place of a 4x4 matrix. -/
abbrev ri4 : IVec S4x4 32 := iota .tc S4x4 32 [0] iota_S4x4_d0_w32
/-- The column of each place of a 4x4 matrix. -/
abbrev ci4 : IVec S4x4 32 := iota .tc S4x4 32 [1] iota_S4x4_d1_w32
/-- The row of each place of a 3x3 matrix. -/
abbrev ri3 : IVec S3x3 32 := iota .tc S3x3 32 [0] iota_S3x3_d0_w32
/-- The column of each place of a 3x3 matrix. -/
abbrev ci3 : IVec S3x3 32 := iota .tc S3x3 32 [1] iota_S3x3_d1_w32
/-- The row of each place of a cloud. -/
abbrev si3 : IVec S3x4096 32 := iota .tc S3x4096 32 [0] iota_S3x4096_d0_w32

/-- The mean of a row. -/
def kMean (x : FVec F S1x4096 .f32) : FVec F S1x1 .f32 :=
  mulf (shapeCast S1x1 (multiReduction .add [1] S1 x 0x00000000#32 reduces_S1x4096_S1 (.inl rfl) rfl) shapeCasts_S1_S1x1)
    (broadcast S1x1 (Scalar.ofBits .f32 0x39800000#32))

/-- A row less its mean. -/
def kCent (x : FVec F S1x4096 .f32) : FVec F S1x4096 .f32 := subf x (broadcastTo S1x4096 (kMean x) broadcasts_S1x1_S1x4096)

/-- Three rows as one array. -/
def kStack (a b c : FVec F S1x4096 .f32) : FVec F S3x4096 .f32 :=
  select (cmpi .eq si3 (broadcast S3x4096 0#32)) (broadcastTo S3x4096 (shapeCast S1x4096 a shapeCasts_S1x4096_S1x4096) broadcasts_S1x4096_S3x4096)
    (select (cmpi .eq si3 (broadcast S3x4096 1#32)) (broadcastTo S3x4096 (shapeCast S1x4096 b shapeCasts_S1x4096_S1x4096) broadcasts_S1x4096_S3x4096)
      (broadcastTo S3x4096 (shapeCast S1x4096 c shapeCasts_S1x4096_S1x4096) broadcasts_S1x4096_S3x4096))

/-- The products of the centred rows, summed over the points. -/
def kH (s0 s1 s2 t0 t1 t2 : FVec F S1x4096 .f32) : FVec F S3x3 .f32 :=
  matmul dot_S3x4096_S3x4096_S3x3_1_1_0_0_n_n none (kStack (kCent s0) (kCent s1) (kCent s2)) (kStack (kCent t0) (kCent t1) (kCent t2))
    (constant S3x3 .f32 0x00000000#32)

/-- The array `A` with `x` added at one entry. -/
def kPut4 (i j : BitVec 32) (x : FVec F S1x1 .f32) (A : FVec F S4x4 .f32) : FVec F S4x4 .f32 :=
  addf A (select (andi (cmpi .eq ri4 (broadcast S4x4 i)) (cmpi .eq ci4 (broadcast S4x4 j)))
    (broadcastTo S4x4 (shapeCast S1x1 x shapeCasts_S1x1_S1x1) broadcasts_S1x1_S4x4) (broadcast S4x4 (Scalar.ofBits .f32 0x00000000#32)))

/-- The same of a three by three array. -/
def kPut3 (i j : BitVec 32) (x : FVec F S1x1 .f32) (A : FVec F S3x3 .f32) : FVec F S3x3 .f32 :=
  addf A (select (andi (cmpi .eq ri3 (broadcast S3x3 i)) (cmpi .eq ci3 (broadcast S3x3 j)))
    (broadcastTo S3x3 (shapeCast S1x1 x shapeCasts_S1x1_S1x1) broadcasts_S1x1_S3x3) (broadcast S3x3 (Scalar.ofBits .f32 0x00000000#32)))

/-- Horn's four by four matrix of the products. -/
def kHorn (H : FVec F S3x3 .f32) : FVec F S4x4 .f32 :=
  let xx := extractStridedSlice S1x1 ![0, 0] H slices_S3x3_o0_0_S1x1
  let xy := extractStridedSlice S1x1 ![0, 1] H slices_S3x3_o0_1_S1x1
  let xz := extractStridedSlice S1x1 ![0, 2] H slices_S3x3_o0_2_S1x1
  let yx := extractStridedSlice S1x1 ![1, 0] H slices_S3x3_o1_0_S1x1
  let yy := extractStridedSlice S1x1 ![1, 1] H slices_S3x3_o1_1_S1x1
  let yz := extractStridedSlice S1x1 ![1, 2] H slices_S3x3_o1_2_S1x1
  let zx := extractStridedSlice S1x1 ![2, 0] H slices_S3x3_o2_0_S1x1
  let zy := extractStridedSlice S1x1 ![2, 1] H slices_S3x3_o2_1_S1x1
  let zz := extractStridedSlice S1x1 ![2, 2] H slices_S3x3_o2_2_S1x1
  kPut4 3#32 2#32 (addf yz zy) <| kPut4 2#32 3#32 (addf yz zy) <|
  kPut4 3#32 1#32 (addf zx xz) <| kPut4 1#32 3#32 (addf zx xz) <|
  kPut4 2#32 1#32 (addf xy yx) <| kPut4 1#32 2#32 (addf xy yx) <|
  kPut4 3#32 0#32 (subf xy yx) <| kPut4 0#32 3#32 (subf xy yx) <|
  kPut4 2#32 0#32 (subf zx xz) <| kPut4 0#32 2#32 (subf zx xz) <|
  kPut4 1#32 0#32 (subf yz zy) <| kPut4 0#32 1#32 (subf yz zy) <|
  kPut4 3#32 3#32 (addf (subf (subf zero11 xx) yy) zz) <|
  kPut4 2#32 2#32 (subf (addf (subf zero11 xx) yy) zz) <|
  kPut4 1#32 1#32 (subf (subf xx yy) zz) <|
  kPut4 0#32 0#32 (addf (addf xx yy) zz) (broadcast S4x4 (Scalar.ofBits .f32 0x00000000#32))

/-- The unit matrix. -/
def kEye : FVec F S4x4 .f32 :=
  select (cmpi .eq ri4 ci4) (broadcast S4x4 (Scalar.ofBits .f32 0x3F800000#32)) (broadcast S4x4 (Scalar.ofBits .f32 0x00000000#32))

/-- The column of `V` under the greatest diagonal entry of `A`, divided by its length. -/
def kQuat (AV : FVec F S4x4 .f32 × FVec F S4x4 .f32) : FVec F S4x1 .f32 := k0_pay117 AV.2 (k0_pay116 ri4 ci4 AV.1)

/-- The unit quaternion of the alignment. -/
def kUnit (s0 s1 s2 t0 t1 t2 : FVec F S1x4096 .f32) : FVec F S4x1 .f32 :=
  kQuat ((kSweep ri4 ci4)^[6] (kHorn (kH s0 s1 s2 t0 t1 t2), kEye))

/-- The quaternion's first entry. -/
def kQw (q : FVec F S4x1 .f32) : FVec F S1x1 .f32 := extractStridedSlice S1x1 ![0, 0] q slices_S4x1_o0_0_S1x1
/-- The quaternion's second entry. -/
def kQx (q : FVec F S4x1 .f32) : FVec F S1x1 .f32 := extractStridedSlice S1x1 ![1, 0] q slices_S4x1_o1_0_S1x1
/-- The quaternion's third entry. -/
def kQy (q : FVec F S4x1 .f32) : FVec F S1x1 .f32 := extractStridedSlice S1x1 ![2, 0] q slices_S4x1_o2_0_S1x1
/-- The quaternion's fourth entry. -/
def kQz (q : FVec F S4x1 .f32) : FVec F S1x1 .f32 := extractStridedSlice S1x1 ![3, 0] q slices_S4x1_o3_0_S1x1

/-- The entries of the rotation of a quaternion. -/
def kDiag (a b : FVec F S1x1 .f32) : FVec F S1x1 .f32 := subf one11 (mulf two11 (addf (mulf a a) (mulf b b)))
/-- `2 (a b + c d)`. -/
def kPlus (a b c d : FVec F S1x1 .f32) : FVec F S1x1 .f32 := mulf two11 (addf (mulf a b) (mulf c d))
/-- `2 (a b - c d)`. -/
def kMinus (a b c d : FVec F S1x1 .f32) : FVec F S1x1 .f32 := mulf two11 (subf (mulf a b) (mulf c d))

/-- The rotation of a quaternion. -/
def kRe (q : FVec F S4x1 .f32) : Fin 3 → Fin 3 → FVec F S1x1 .f32 :=
  ![![kDiag (kQy q) (kQz q), kMinus (kQx q) (kQy q) (kQw q) (kQz q), kPlus (kQx q) (kQz q) (kQw q) (kQy q)],
    ![kPlus (kQx q) (kQy q) (kQw q) (kQz q), kDiag (kQx q) (kQz q), kMinus (kQy q) (kQz q) (kQw q) (kQx q)],
    ![kMinus (kQx q) (kQz q) (kQw q) (kQy q), kPlus (kQy q) (kQz q) (kQw q) (kQx q), kDiag (kQx q) (kQy q)]]

/-- The rotation as one array. -/
def kR33 (q : FVec F S4x1 .f32) : FVec F S3x3 .f32 :=
  kPut3 2#32 2#32 (kRe q 2 2) <| kPut3 2#32 1#32 (kRe q 2 1) <| kPut3 2#32 0#32 (kRe q 2 0) <|
  kPut3 1#32 2#32 (kRe q 1 2) <| kPut3 1#32 1#32 (kRe q 1 1) <| kPut3 1#32 0#32 (kRe q 1 0) <|
  kPut3 0#32 2#32 (kRe q 0 2) <| kPut3 0#32 1#32 (kRe q 0 1) <| kPut3 0#32 0#32 (kRe q 0 0) (broadcast S3x3 (Scalar.ofBits .f32 0x00000000#32))

/-- One entry of the shift: a target mean less the row of the rotation applied to the source means. -/
def kSh (q : FVec F S4x1 .f32) (i : Fin 3) (m0 m1 m2 m : FVec F S1x1 .f32) : FVec F S1x1 .f32 :=
  subf m (addf (addf (mulf (kRe q i 0) m0) (mulf (kRe q i 1) m1)) (mulf (kRe q i 2) m2))

/-- Row `i` of three, as a load reads it. -/
def kRow0 (X : FVec F S3x4096 .f32) : FVec F S1x4096 .f32 := fun j => X ((Rect.unit (s := S3x4096) ![0, 0] S1x4096.size inb_S3x4096_S1x4096_0_0).idx j)
/-- A cloud's second row. -/
def kRow1 (X : FVec F S3x4096 .f32) : FVec F S1x4096 .f32 := fun j => X ((Rect.unit (s := S3x4096) ![1, 0] S1x4096.size inb_S3x4096_S1x4096_1_0).idx j)
/-- A cloud's third row. -/
def kRow2 (X : FVec F S3x4096 .f32) : FVec F S1x4096 .f32 := fun j => X ((Rect.unit (s := S3x4096) ![2, 0] S1x4096.size inb_S3x4096_S1x4096_2_0).idx j)

/-- The moved cloud of rows `s0 s1 s2` towards rows `t0 t1 t2`, over the cloud `X` as one array. -/
def kMoveRows (s0 s1 s2 t0 t1 t2 : FVec F S1x4096 .f32) (X : FVec F S3x4096 .f32) : FVec F S3x4096 .f32 :=
  k0_pay206 (kSh (kUnit s0 s1 s2 t0 t1 t2) 0 (kMean s0) (kMean s1) (kMean s2) (kMean t0))
    (kSh (kUnit s0 s1 s2 t0 t1 t2) 1 (kMean s0) (kMean s1) (kMean s2) (kMean t1))
    (kSh (kUnit s0 s1 s2 t0 t1 t2) 2 (kMean s0) (kMean s1) (kMean s2) (kMean t2)) (kR33 (kUnit s0 s1 s2 t0 t1 t2)) X

/-- The block a cloud's pose is written as: the shift, then the signed quaternion with its real part last. -/
def kPack (q : FVec F S4x1 .f32) (t0 t1 t2 : FVec F S1x1 .f32) : FVec F S1x1x8 .f32 :=
  k0_pay1 t0 t1 t2 (k0_pay263 q) (k0_pay264 q) (k0_pay265 q) (k0_pay266 q) (iota .tc S1x8 32 [1] iota_S1x8_d1_w32) k0_pay267 k0_pay268 k0_pay269

/-- The result block of the final alignment. -/
def kOutRows (s0 s1 s2 t0 t1 t2 : FVec F S1x4096 .f32) : FVec F S1x1x8 .f32 :=
  kPack (kUnit s0 s1 s2 t0 t1 t2) (kSh (kUnit s0 s1 s2 t0 t1 t2) 0 (kMean s0) (kMean s1) (kMean s2) (kMean t0))
    (kSh (kUnit s0 s1 s2 t0 t1 t2) 1 (kMean s0) (kMean s1) (kMean s2) (kMean t1))
    (kSh (kUnit s0 s1 s2 t0 t1 t2) 2 (kMean s0) (kMean s1) (kMean s2) (kMean t2))

/-- A fold of one function over the trips is its iterate. -/
theorem fold_const {σ : Type} (n : ℕ) (f : σ → σ) (x : σ) : Scf.fold (fun (_ : Fin n) => f) x = f^[n] x := by
  rw [Scf.fold_eq, List.foldl_const, List.length_finRange]

end Cert.Proof.KernelIdeal

end
-- ==== Proof.KernelBody.lean ====
/-
  The printed bodies of the iterations and of the block with the alignments in them as values: loads, the search's loop and
  one store are what is left.
-/
module

public import proofs.«01_k».proof.Proof.KernelAlign

@[expose] public section

noncomputable section

namespace Cert.Proof.KernelIdeal

open Cert.KernelIdeal Cert.KernelIdeal.Gen
open Idealize.ShloMosaic Idealize.ShloMosaic.TcCoe Idealize.ShloMosaic.Tactic
open Idealize.SL.Sem

variable {F : FTy → Type} [FloatOps F] [Named F]
variable (i : grid0.Coords) (arg1 : Memref sig .tc .vmem S1x3x4096 .f32) (harg1 : arg1.IsWhole)
    (arg2 : Memref sig .tc .vmem S1x4096x3 .f32) (harg2 : arg2.IsWhole) (arg3 : Memref sig .tc .vmem S1x3x4096 .f32) (harg3 : arg3.IsWhole)
    (arg4 : Memref sig .tc .vmem S1x1x8 .f32) (harg4 : arg4.IsWhole) (arg5 : Memref sig .tc .vmem S3x4096 .f32) (harg5 : arg5.IsWhole)
    (arg6 : Memref sig .tc .vmem S3x4096 .f32) (harg6 : arg6.IsWhole)

omit [Named F] in
set_option maxRecDepth 65536 in
/-- One sweep of the final alignment. -/
theorem t5_body (v86 v87 : IVec S4x4 32) (v256 v265) (k : Fin k0_t5_loop.trips) (AV : FVec F S4x4 .f32 × FVec F S4x4 .f32) :
    k0_t5_body i arg1 harg1 arg2 harg2 arg3 harg3 arg4 harg4 arg5 harg5 arg6 harg6 v86 v87 v256 v265 k AV
      = pure (kSweep v86 v87 AV) := by
  obtain ⟨A, V⟩ := AV
  unfold k0_t5_body
  simp only [k0_part37_eq_skeleton, k0_part37_skel, k0_part25_eq_skeleton, k0_part25_skel, k0_part26_eq_skeleton, k0_part26_skel,
    k0_part27_eq_skeleton, k0_part27_skel, k0_part28_eq_skeleton, k0_part28_skel, k0_part29_eq_skeleton, k0_part29_skel,
    k0_part30_eq_skeleton, k0_part30_skel, k0_part31_eq_skeleton, k0_part31_skel, k0_part32_eq_skeleton, k0_part32_skel,
    k0_part33_eq_skeleton, k0_part33_skel, k0_part34_eq_skeleton, k0_part34_skel, k0_part35_eq_skeleton, k0_part35_skel,
    k0_part36_eq_skeleton, k0_part36_skel, pure_bind]
  rfl

omit [Named F] in
/-- The sweeps of an iteration are the sixfold sweep. -/
theorem t4_loop (v520 v521 : IVec S4x4 32) (v539 v540) (v660) (v665) (AV : FVec F S4x4 .f32 × FVec F S4x4 .f32) :
    Scf.Loop.for k0_t4_loop k0_t4_ok AV (k0_t4_body i arg1 harg1 arg2 harg2 arg3 harg3 arg4 harg4 arg5 harg5 arg6 harg6 v520 v521 v539 v540 v660 v665)
      = pure ((kSweep v520 v521)^[6] AV) := by
  rw [Scf.Loop.for, Scf.for_pure _ _ _ _ _ _ (fun _ => kSweep v520 v521) (fun k acc => t4_body i arg1 harg1 arg2 harg2 arg3 harg3 arg4 harg4 arg5 harg5 arg6 harg6 v520 v521 v539 v540 v660 v665 k acc)]
  exact congrArg _ (fold_const _ _ _)

omit [Named F] in
/-- The sweeps of the final alignment likewise. -/
theorem t5_loop (v86 v87 : IVec S4x4 32) (v256 v265) (AV : FVec F S4x4 .f32 × FVec F S4x4 .f32) :
    Scf.Loop.for k0_t5_loop k0_t5_ok AV (k0_t5_body i arg1 harg1 arg2 harg2 arg3 harg3 arg4 harg4 arg5 harg5 arg6 harg6 v86 v87 v256 v265)
      = pure ((kSweep v86 v87)^[6] AV) := by
  rw [Scf.Loop.for, Scf.for_pure _ _ _ _ _ _ (fun _ => kSweep v86 v87) (fun k acc => t5_body i arg1 harg1 arg2 harg2 arg3 harg3 arg4 harg4 arg5 harg5 arg6 harg6 v86 v87 v256 v265 k acc)]
  exact congrArg _ (fold_const _ _ _)

set_option maxRecDepth 65536 in
/-- One iteration: the search over the source tiles, seven loads, and the moved cloud stored. -/
theorem t1_body (k : Fin k0_t1_loop.trips) (u : Unit) :
    k0_t1_body (F := F) i arg1 harg1 arg2 harg2 arg3 harg3 arg4 harg4 arg5 harg5 arg6 harg6 k u = (do
      Scf.Loop.for k0_t2_loop k0_t2_ok ⟨⟩ (k0_t2_body i arg1 harg1 arg2 harg2 arg3 harg3 arg4 harg4 arg5 harg5 arg6 harg6 0#32 1#32 k)
      let v443 : Vec F S1x4096 .f32 ← Prog.lift (.load arg5 (Rect.unit (s := S3x4096) ![0, 0] S1x4096.size inb_S3x4096_S1x4096_0_0).toLoadRect (View.loadsAt_vmem h_S1x4096))
      let v444 : Vec F S1x4096 .f32 ← Prog.lift (.load arg5 (Rect.unit (s := S3x4096) ![1, 0] S1x4096.size inb_S3x4096_S1x4096_1_0).toLoadRect (View.loadsAt_vmem h_S1x4096))
      let v445 : Vec F S1x4096 .f32 ← Prog.lift (.load arg5 (Rect.unit (s := S3x4096) ![2, 0] S1x4096.size inb_S3x4096_S1x4096_2_0).toLoadRect (View.loadsAt_vmem h_S1x4096))
      let v446 : Vec F S1x4096 .f32 ← Prog.lift (.load arg6 (Rect.unit (s := S3x4096) ![0, 0] S1x4096.size inb_S3x4096_S1x4096_0_0).toLoadRect (View.loadsAt_vmem h_S1x4096))
      let v447 : Vec F S1x4096 .f32 ← Prog.lift (.load arg6 (Rect.unit (s := S3x4096) ![1, 0] S1x4096.size inb_S3x4096_S1x4096_1_0).toLoadRect (View.loadsAt_vmem h_S1x4096))
      let v448 : Vec F S1x4096 .f32 ← Prog.lift (.load arg6 (Rect.unit (s := S3x4096) ![2, 0] S1x4096.size inb_S3x4096_S1x4096_2_0).toLoadRect (View.loadsAt_vmem h_S1x4096))
      let v902 : Vec F S3x4096 .f32 ← Prog.lift (.load arg5 (Rect.unit (s := S3x4096) ![0, 0] S3x4096.size inb_S3x4096_S3x4096_0_0).toLoadRect (View.loadsAt_vmem h_S3x4096))
      let _v918 : Vec F S3x4096 .f32 ← Prog.lift (.load arg5 (Rect.unit (s := S3x4096) ![0, 0] S3x4096.size inb_S3x4096_S3x4096_0_0).toLoadRect (View.loadsAt_vmem h_S3x4096))
      Prog.lift (.store arg5 (Rect.unit (s := S3x4096) ![0, 0] S3x4096.size inb_S3x4096_S3x4096_0_0) (kMoveRows v443 v444 v445 v446 v447 v448 v902) Finset.univ (View.stores_vmem_bits_univ h_S3x4096 rfl) (.inl rfl))
      pure ⟨⟩) := by
  unfold k0_t1_body
  simp only [k0_part15_eq_skeleton, k0_part15_skel, k0_part16_eq_skeleton, k0_part16_skel, k0_part17_eq_skeleton, k0_part17_skel,
    k0_part18_eq_skeleton, k0_part18_skel, k0_part19_eq_skeleton, k0_part19_skel, k0_part20_eq_skeleton, k0_part20_skel,
    k0_part21_eq_skeleton, k0_part21_skel, k0_part22_eq_skeleton, k0_part22_skel, k0_part23_eq_skeleton, k0_part23_skel,
    k0_part24_eq_skeleton, k0_part24_skel, t4_loop, bind_assoc, pure_bind]
  rfl

set_option maxRecDepth 65536 in
/-- The block: the source stored, the iterations, six loads, and the pose stored. -/
theorem icp_body :
    cc0__icp_body (F := F) i arg1 harg1 arg2 harg2 arg3 harg3 arg4 harg4 arg5 harg5 arg6 harg6 = (do
      let v0 : Vec F S1x3x4096 .f32 ← Prog.lift (.load arg1 (Rect.unit (s := S1x3x4096) ![0, 0, 0] S1x3x4096.size inb_S1x3x4096_S1x3x4096_0_0_0).toLoadRect (View.loadsAt_vmem h_S1x3x4096))
      let _v2 : Vec F S3x4096 .f32 ← Prog.lift (.load arg5 (Rect.unit (s := S3x4096) ![0, 0] S3x4096.size inb_S3x4096_S3x4096_0_0).toLoadRect (View.loadsAt_vmem h_S3x4096))
      Prog.lift (.store arg5 (Rect.unit (s := S3x4096) ![0, 0] S3x4096.size inb_S3x4096_S3x4096_0_0) (k0_pay205 v0) Finset.univ (View.stores_vmem_bits_univ h_S3x4096 rfl) (.inl rfl))
      Scf.Loop.for k0_t1_loop k0_t1_ok ⟨⟩ (k0_t1_body i arg1 harg1 arg2 harg2 arg3 harg3 arg4 harg4 arg5 harg5 arg6 harg6)
      let v6 : Vec F S1x1x4096 .f32 ← Prog.lift (.load arg1 (Rect.unit (s := S1x3x4096) ![0, 0, 0] S1x1x4096.size inb_S1x3x4096_S1x1x4096_0_0_0).toLoadRect (View.loadsAt_vmem h_S1x1x4096))
      let v8 : Vec F S1x1x4096 .f32 ← Prog.lift (.load arg1 (Rect.unit (s := S1x3x4096) ![0, 1, 0] S1x1x4096.size inb_S1x3x4096_S1x1x4096_0_1_0).toLoadRect (View.loadsAt_vmem h_S1x1x4096))
      let v10 : Vec F S1x1x4096 .f32 ← Prog.lift (.load arg1 (Rect.unit (s := S1x3x4096) ![0, 2, 0] S1x1x4096.size inb_S1x3x4096_S1x1x4096_0_2_0).toLoadRect (View.loadsAt_vmem h_S1x1x4096))
      let v12 : Vec F S1x4096 .f32 ← Prog.lift (.load arg5 (Rect.unit (s := S3x4096) ![0, 0] S1x4096.size inb_S3x4096_S1x4096_0_0).toLoadRect (View.loadsAt_vmem h_S1x4096))
      let v13 : Vec F S1x4096 .f32 ← Prog.lift (.load arg5 (Rect.unit (s := S3x4096) ![1, 0] S1x4096.size inb_S3x4096_S1x4096_1_0).toLoadRect (View.loadsAt_vmem h_S1x4096))
      let v14 : Vec F S1x4096 .f32 ← Prog.lift (.load arg5 (Rect.unit (s := S3x4096) ![2, 0] S1x4096.size inb_S3x4096_S1x4096_2_0).toLoadRect (View.loadsAt_vmem h_S1x4096))
      let _v441 : Vec F S1x1x8 .f32 ← Prog.lift (.load arg4 (Rect.unit (s := S1x1x8) ![0, 0, 0] S1x1x8.size inb_S1x1x8_S1x1x8_0_0_0).toLoadRect (View.loadsAt_vmem h_S1x1x8))
      Prog.lift (.store arg4 (Rect.unit (s := S1x1x8) ![0, 0, 0] S1x1x8.size inb_S1x1x8_S1x1x8_0_0_0) (kOutRows (k0_pay207 v6) (k0_pay208 v8) (k0_pay209 v10) v12 v13 v14) Finset.univ (View.stores_vmem_bits_univ h_S1x1x8 rfl) (.inl rfl))
      pure ⟨⟩) := by
  rw [cc0__icp_body_eq_skeleton]
  unfold cc0__icp_body_skel
  simp only [k0_part38_eq_skeleton, k0_part38_skel, k0_part39_eq_skeleton, k0_part39_skel, k0_part40_eq_skeleton, k0_part40_skel,
    k0_part41_eq_skeleton, k0_part41_skel, k0_part42_eq_skeleton, k0_part42_skel, k0_part43_eq_skeleton, k0_part43_skel,
    k0_part44_eq_skeleton, k0_part44_skel, k0_part45_eq_skeleton, k0_part45_skel, k0_part46_eq_skeleton, k0_part46_skel,
    t5_loop, bind_assoc, pure_bind]
  rfl

end Cert.Proof.KernelIdeal

end
-- ==== Proof.KernelNearest.lean ====
/-
  The kernel's search as a function of the blocks: what one chunk of targets makes of the running best, what a tile of
  sources ends with, and the array of all the tiles.
-/
module

public import proofs.«01_k».proof.Proof.KernelBody
public import Idealize.ShloMosaic.Lib.Pointwise

@[expose] public section

noncomputable section

namespace Cert.Proof.KernelIdeal

open Cert.KernelIdeal Cert.KernelIdeal.Gen
open Idealize.ShloMosaic Idealize.ShloMosaic.TcCoe Idealize.ShloMosaic.Tactic
open Idealize.SL.Sem

variable {F : FTy → Type} [FloatOps F] [Named F]

/-- What the chunks carry: the best distances so far and the points at them. -/
abbrev Acc (F : FTy → Type) : Type := FVec F S1x1024 .f32 × FVec F S3x1024 .f32

/-- A source tile: its three rows and the rows as one array, as the loads read them. -/
def tileRow0 (x5 : FVec F S3x4096 .f32) (t : Fin k0_t2_loop.trips) : FVec F S1x1024 .f32 := fun j => x5 ((Rect.unit (s := S3x4096) (k0_off1 t) S1x1024.size (k0_off1_inb t)).idx j)
/-- The second row of a tile of source points. -/
def tileRow1 (x5 : FVec F S3x4096 .f32) (t : Fin k0_t2_loop.trips) : FVec F S1x1024 .f32 := fun j => x5 ((Rect.unit (s := S3x4096) (k0_off2 t) S1x1024.size (k0_off2_inb t)).idx j)
/-- The third row of a tile of source points. -/
def tileRow2 (x5 : FVec F S3x4096 .f32) (t : Fin k0_t2_loop.trips) : FVec F S1x1024 .f32 := fun j => x5 ((Rect.unit (s := S3x4096) (k0_off3 t) S1x1024.size (k0_off3_inb t)).idx j)
/-- All three rows of a tile of source points. -/
def tileAll (x5 : FVec F S3x4096 .f32) (t : Fin k0_t2_loop.trips) : FVec F S3x1024 .f32 := fun j => x5 ((Rect.unit (s := S3x4096) (k0_off4 t) S3x1024.size (k0_off4_inb t)).idx j)

/-- A chunk of targets: its three columns, the columns as one array, and the same points as rows. -/
def chunk0 (x2 : FVec F S1x4096x3 .f32) (k : Fin k0_t3_loop.trips) : FVec F S1x512x1 .f32 := fun j => x2 ((Rect.unit (s := S1x4096x3) (k0_off5 k) S1x512x1.size (k0_off5_inb k)).idx j)
/-- The second column of a chunk of targets. -/
def chunk1 (x2 : FVec F S1x4096x3 .f32) (k : Fin k0_t3_loop.trips) : FVec F S1x512x1 .f32 := fun j => x2 ((Rect.unit (s := S1x4096x3) (k0_off6 k) S1x512x1.size (k0_off6_inb k)).idx j)
/-- The third column of a chunk of targets. -/
def chunk2 (x2 : FVec F S1x4096x3 .f32) (k : Fin k0_t3_loop.trips) : FVec F S1x512x1 .f32 := fun j => x2 ((Rect.unit (s := S1x4096x3) (k0_off7 k) S1x512x1.size (k0_off7_inb k)).idx j)
/-- All three columns of a chunk of targets. -/
def chunkAll (x2 : FVec F S1x4096x3 .f32) (k : Fin k0_t3_loop.trips) : FVec F S1x512x3 .f32 := fun j => x2 ((Rect.unit (s := S1x4096x3) (k0_off8 k) S1x512x3.size (k0_off8_inb k)).idx j)
/-- The same chunk from the transposed targets. -/
def chunkRows (x3 : FVec F S1x3x4096 .f32) (k : Fin k0_t3_loop.trips) : FVec F S1x3x512 .f32 := fun j => x3 ((Rect.unit (s := S1x3x4096) (k0_off9 k) S1x3x512.size (k0_off9_inb k)).idx j)

/-- One chunk: the least distance and the point at it replace the running ones where the chunk's is less. -/
def nnStep (x2 : FVec F S1x4096x3 .f32) (x3 : FVec F S1x3x4096 .f32) (r0 r1 r2 : FVec F S1x1024 .f32) (a : FVec F S3x1024 .f32)
    (k : Fin k0_t3_loop.trips) (acc : Acc F) : Acc F :=
  (k0_pay76 acc.1 (k0_pay3 a (k0_pay72 r0 r1 r2) (chunk0 x2 k) (chunk1 x2 k) (chunk2 x2 k) (chunkAll x2 k)),
    k0_pay77 acc.1 acc.2 (k0_pay3 a (k0_pay72 r0 r1 r2) (chunk0 x2 k) (chunk1 x2 k) (chunk2 x2 k) (chunkAll x2 k))
      (k0_pay5 0#32 1#32 k) (k0_pay6 a (k0_pay72 r0 r1 r2) 0#32 1#32 k (chunk0 x2 k) (chunk1 x2 k) (chunk2 x2 k) (chunkAll x2 k)) (chunkRows x3 k))

/-- The running best before chunk `k`. -/
def nnAcc (x2 : FVec F S1x4096x3 .f32) (x3 : FVec F S1x3x4096 .f32) (r0 r1 r2 : FVec F S1x1024 .f32) (a : FVec F S3x1024 .f32) : ℕ → Acc F
  | 0 => (k0_pay73, k0_pay74)
  | k + 1 => if h : k < k0_t3_loop.trips then nnStep x2 x3 r0 r1 r2 a ⟨k, h⟩ (nnAcc x2 x3 r0 r1 r2 a k) else nnAcc x2 x3 r0 r1 r2 a k

/-- One chunk more. -/
theorem nnAcc_succ (x2 : FVec F S1x4096x3 .f32) (x3 : FVec F S1x3x4096 .f32) (r0 r1 r2 : FVec F S1x1024 .f32) (a : FVec F S3x1024 .f32)
    (k : Fin k0_t3_loop.trips) : nnAcc x2 x3 r0 r1 r2 a (k.val + 1) = nnStep x2 x3 r0 r1 r2 a k (nnAcc x2 x3 r0 r1 r2 a k.val) := by
  rw [nnAcc, dif_pos k.isLt]

/-- What a source tile ends with: the matched points of its columns. -/
def nnTile (x2 : FVec F S1x4096x3 .f32) (x3 : FVec F S1x3x4096 .f32) (x5 : FVec F S3x4096 .f32) (t : Fin k0_t2_loop.trips) : FVec F S3x1024 .f32 :=
  k0_pay78 (nnAcc x2 x3 (tileRow0 x5 t) (tileRow1 x5 t) (tileRow2 x5 t) (tileAll x5 t) k0_t3_loop.trips).2

/-- The matched points of all the columns: column `j` is in tile `j / 1024`. -/
def nnAll (x2 : FVec F S1x4096x3 .f32) (x3 : FVec F S1x3x4096 .f32) (x5 : FVec F S3x4096 .f32) : FVec F S3x4096 .f32 := fun j =>
  nnTile x2 x3 x5 ⟨(j 1).val / 1024, Nat.div_lt_of_lt_mul (j 1).isLt⟩
    (ix2 (j 0) ⟨(j 1).val % 1024, Nat.mod_lt _ (by decide)⟩)

/-- One iteration: the cloud moved onto its matched points. -/
def kStep (x2 : FVec F S1x4096x3 .f32) (x3 : FVec F S1x3x4096 .f32) (X : FVec F S3x4096 .f32) : FVec F S3x4096 .f32 :=
  kMoveRows (kRow0 X) (kRow1 X) (kRow2 X) (kRow0 (nnAll x2 x3 X)) (kRow1 (nnAll x2 x3 X)) (kRow2 (nnAll x2 x3 X)) X

/-- The moved cloud before iteration `k`. -/
def icp (x1 : FVec F S1x3x4096 .f32) (x2 : FVec F S1x4096x3 .f32) (x3 : FVec F S1x3x4096 .f32) : ℕ → FVec F S3x4096 .f32
  | 0 => k0_pay205 x1
  | k + 1 => kStep x2 x3 (icp x1 x2 x3 k)

/-- Row `i` of a block, as the last loads read it. -/
def kBlk0 (x1 : FVec F S1x3x4096 .f32) : FVec F S1x1x4096 .f32 := fun j => x1 ((Rect.unit (s := S1x3x4096) ![0, 0, 0] S1x1x4096.size inb_S1x3x4096_S1x1x4096_0_0_0).idx j)
/-- The second row of the block of source points. -/
def kBlk1 (x1 : FVec F S1x3x4096 .f32) : FVec F S1x1x4096 .f32 := fun j => x1 ((Rect.unit (s := S1x3x4096) ![0, 1, 0] S1x1x4096.size inb_S1x3x4096_S1x1x4096_0_1_0).idx j)
/-- The third row of the block of source points. -/
def kBlk2 (x1 : FVec F S1x3x4096 .f32) : FVec F S1x1x4096 .f32 := fun j => x1 ((Rect.unit (s := S1x3x4096) ![0, 2, 0] S1x1x4096.size inb_S1x3x4096_S1x1x4096_0_2_0).idx j)

/-- The result block of a source block and its two target blocks. -/
def kOut (x1 : FVec F S1x3x4096 .f32) (x2 : FVec F S1x4096x3 .f32) (x3 : FVec F S1x3x4096 .f32) : FVec F S1x1x8 .f32 :=
  kOutRows (k0_pay207 (kBlk0 x1)) (k0_pay208 (kBlk1 x1)) (k0_pay209 (kBlk2 x1))
    (kRow0 (icp x1 x2 x3 10)) (kRow1 (icp x1 x2 x3 10)) (kRow2 (icp x1 x2 x3 10))

end Cert.Proof.KernelIdeal

end
-- ==== Proof.KernelIdealRun.lean ====
/-
  The loops and the block of the kernel run with their values: the two scratch arrays are followed through.
-/
module

public import proofs.«01_k».proof.Proof.KernelNearest
public import Idealize.ShloMosaic.Lib.WholeRead
public import Idealize.ShloMosaic.Lib.WritesUnit
public import Idealize.ShloMosaic.Lib.VecWindow

@[expose] public section

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resources of the separation logic. -/
abbrev UU (nD : Nat) (τ : Topo) : Type := UR sig nD τ
/-- No loop variants are needed. -/
abbrev 𝒱₀ : Variants := Variants.none

local notation "𝕄" => MT nD τ sig Unit (Elt F) ℕ (UR sig nD τ) ℕ

/-- A memref's buffer at some contents. -/
abbrev Held (c : Dev nD) (M : Memref sig .tc .vmem S3x4096 .f32) : sProp 𝕄 :=
  iprop(∃ f : BufTy.Contents (Elt F) M.view.ty, M.view.loc (c : Thread nD τ) ↦[M.view.set]{fullShare} f)

variable (c : Dev nD) (i : grid0.Coords) (arg1 : Memref sig .tc .vmem S1x3x4096 .f32) (harg1 : arg1.IsWhole)
    (arg2 : Memref sig .tc .vmem S1x4096x3 .f32) (harg2 : arg2.IsWhole) (arg3 : Memref sig .tc .vmem S1x3x4096 .f32) (harg3 : arg3.IsWhole)
    (arg4 : Memref sig .tc .vmem S1x1x8 .f32) (harg4 : arg4.IsWhole) (arg5 : Memref sig .tc .vmem S3x4096 .f32) (harg5 : arg5.IsWhole)
    (arg6 : Memref sig .tc .vmem S3x4096 .f32) (harg6 : arg6.IsWhole)

/-- A load of a whole array reads it as it is. -/
theorem ld_whole2 (X : FVec F S3x4096 .f32) :
    (fun x => X ((Rect.unit (s := S3x4096) ![0, 0] S3x4096.size Gen.inb_S3x4096_S3x4096_0_0).idx x)) = X :=
  View.ld_unit_zero (Val := Elt F) (e := .f32) (S := S3x4096) (off := ![0, 0]) (funext fun a => match a with | ⟨0, _⟩ => rfl | ⟨1, _⟩ => rfl) Gen.inb_S3x4096_S3x4096_0_0 X

/-- The same of a block. -/
theorem ld_whole3 (X : FVec F S1x3x4096 .f32) :
    (fun x => X ((Rect.unit (s := S1x3x4096) ![0, 0, 0] S1x3x4096.size Gen.inb_S1x3x4096_S1x3x4096_0_0_0).idx x)) = X :=
  View.ld_unit_zero (Val := Elt F) (e := .f32) (S := S1x3x4096) (off := ![0, 0, 0]) (funext fun a => match a with | ⟨0, _⟩ => rfl | ⟨1, _⟩ => rfl | ⟨2, _⟩ => rfl) Gen.inb_S1x3x4096_S1x3x4096_0_0_0 X

/-- What a load reads of a whole memref, as a function. -/
theorem readAt_unread_fun {s : Shape} {e : EltTy} {m : Memref sig .tc .vmem s e} (h : m.IsWhole) (X : s.Idx → Elt F e) (B : LoadRect s) :
    View.readAt (Elt F) m.view B (h.unread X) = fun x => X (B.idx x) := funext (h.readAt_unread X B)

set_option warn.classDefReducibility false in
/-- The chunks of one source tile: the target blocks are only read, the carried pair is the running best. -/
@[sl_loop] noncomputable def loopInv_k0_t3 (c0_i32 c1_i32 : BitVec 32) (k0_t1 : Fin k0_t1_loop.trips)
    (v923 v925 v927 : Vec F S1x1024 .f32) (v929 : Vec F S3x1024 .f32) (x2 : FVec F S1x4096x3 .f32) (x3 : FVec F S1x3x4096 .f32) :
    Cert.KernelIdeal.Gen.LoopInvTy_k0_t3 (F := F) Unit ℕ (UU nD τ) ℕ 𝒱₀ c none Set.univ i arg1 harg1 arg2 harg2 arg3 harg3 arg4 harg4 arg5 harg5 arg6 harg6
      c0_i32 c1_i32 k0_t1 v923 v925 v927 v929 (Gen.k0_pay73, Gen.k0_pay74) where
  inv := fun k acc => iprop((arg2.view.loc (c : Thread nD τ) ↦[arg2.view.set]{fullShare} harg2.unread x2)
    ∗ (arg3.view.loc (c : Thread nD τ) ↦[arg3.view.set]{fullShare} harg3.unread x3)
    ∗ ⌜acc = nnAcc x2 x3 v923 v925 v927 v929 k⌝)
  step := fun k acc => by
    unfold Gen.k0_t3_body
    simp only [Gen.k0_part1_eq_skeleton, Gen.k0_part1_skel]
    iintro ⟨H2, H3, %hacc⟩
    subst hacc
    sl_exec
    sl_step
    isplitl [H2]; · iexact H2
    isplitl [H3]; · iexact H3
    ipureintro
    rw [nnAcc_succ]
    simp only [readAt_unread_fun]
    rfl

set_option warn.classDefReducibility false in
/-- The source tiles of one search: the two target blocks and the moved source are only read; of the gathered points the
    columns of the tiles done are what the tiles end with. -/
@[sl_loop] noncomputable def loopInv_k0_t2 (c0_i32 c1_i32 : BitVec 32) (k0_t1 : Fin k0_t1_loop.trips)
    (x2 : FVec F S1x4096x3 .f32) (x3 : FVec F S1x3x4096 .f32) (x5 : FVec F S3x4096 .f32) :
    Cert.KernelIdeal.Gen.LoopInvTy_k0_t2 (F := F) Unit ℕ (UU nD τ) ℕ 𝒱₀ c none Set.univ i arg1 harg1 arg2 harg2 arg3 harg3 arg4 harg4 arg5 harg5 arg6 harg6
      c0_i32 c1_i32 k0_t1 where
  inv := fun k _ => iprop((arg2.view.loc (c : Thread nD τ) ↦[arg2.view.set]{fullShare} harg2.unread x2)
    ∗ (arg3.view.loc (c : Thread nD τ) ↦[arg3.view.set]{fullShare} harg3.unread x3)
    ∗ (arg5.view.loc (c : Thread nD τ) ↦[arg5.view.set]{fullShare} harg5.unread x5)
    ∗ (∃ f : BufTy.Contents (Elt F) arg6.view.ty, (arg6.view.loc (c : Thread nD τ) ↦[arg6.view.set]{fullShare} f)
        ∗ ⌜∀ j : S3x4096.Idx, (j 1).val < 1024 * k → arg6.view.read (Elt F) f j = nnAll x2 x3 x5 j⌝))
  step := fun k acc => by
    unfold Gen.k0_t2_body
    iintro ⟨H2, H3, H5, ⟨%f6, H6, %h6⟩⟩
    sl_exec
    sl_step
    isplitl [H2]; · iexact H2
    isplitl [H3]; · iexact H3
    isplitl [H5]; · iexact H5
    iexists _
    isplitl [H6]; · iexact H6
    ipureintro
    intro j hj
    simp only [readAt_unread_fun]
    by_cases hk : 1024 * k.val ≤ (j 1).val
    · have hlt : (j 1).val - 1024 * k.val < 1024 := by omega
      refine (View.read_writes_cons_unit_of_mem (size := ![3, 1024]) arg6.view f6 _ _ _ j (ix2 (n0 := 3) (n1 := 1024) (j 0) ⟨(j 1).val - 1024 * k.val, hlt⟩) (Gen.k0_off4_eq k)
        (fun a => by match a with | ⟨0, _⟩ => exact (Nat.zero_add _).symm | ⟨1, _⟩ => exact (Nat.add_sub_of_le hk).symm)).trans ?_
      have hd : (j 1).val / 1024 = k.val := by omega
      have hm : (j 1).val % 1024 = (j 1).val - 1024 * k.val := by omega
      have ht : (⟨(j 1).val / 1024, Nat.div_lt_of_lt_mul (j 1).isLt⟩ : Fin k0_t2_loop.trips) = k := Fin.ext hd
      unfold nnAll
      rw [ht]
      simp only [hm]
      rfl
    · rw [View.read_writes_cons_unit_of_not_mem arg6.view f6 _ _ _ j (Gen.k0_off4_eq k) 1 (Or.inl (Nat.lt_of_not_le hk))]
      exact h6 j (by omega)

set_option warn.classDefReducibility false in
/-- The iterations: the source block and the two target blocks are only read, the moved cloud is the iterate of the step. -/
@[sl_loop] noncomputable def loopInv_k0_t1 (x1 : FVec F S1x3x4096 .f32) (x2 : FVec F S1x4096x3 .f32) (x3 : FVec F S1x3x4096 .f32) :
    Cert.KernelIdeal.Gen.LoopInvTy_k0_t1 (F := F) Unit ℕ (UU nD τ) ℕ 𝒱₀ c none Set.univ i arg1 harg1 arg2 harg2 arg3 harg3 arg4 harg4 arg5 harg5 arg6 harg6 where
  inv := fun k _ => iprop((arg1.view.loc (c : Thread nD τ) ↦[arg1.view.set]{fullShare} harg1.unread x1)
    ∗ (arg2.view.loc (c : Thread nD τ) ↦[arg2.view.set]{fullShare} harg2.unread x2)
    ∗ (arg3.view.loc (c : Thread nD τ) ↦[arg3.view.set]{fullShare} harg3.unread x3)
    ∗ (∃ f : BufTy.Contents (Elt F) arg5.view.ty, (arg5.view.loc (c : Thread nD τ) ↦[arg5.view.set]{fullShare} f)
        ∗ ⌜arg5.view.read (Elt F) f = icp x1 x2 x3 k⌝)
    ∗ Held (F := F) c arg6)
  step := fun k acc => by
    rw [t1_body]
    iintro ⟨H1, H2, H3, ⟨%f5, H5, %h5⟩, ⟨%f6, H6⟩⟩
    obtain rfl := harg5.eq_unread h5
    sl_exec
    obtain rfl := harg6.eq_unread (funext fun j => hL4 j (j 1).isLt)
    sl_step
    isplitl [H1]; · iexact H1
    isplitl [H2]; · iexact H2
    isplitl [H3]; · iexact H3
    isplitl [H5]
    · iexists _; isplitl [H5]; · iexact H5
      ipureintro
      rw [View.read_writes_full]
      simp only [readAt_unread_fun]
      exact congrArg _ (ld_whole2 _)
    iexists _; iexact H6

end Cert.Proof.KernelIdeal

end
-- ==== Proof.KernelIdealBlock.lean ====
/-
  One block of the kernel, run with its value.
-/
module

public import proofs.«01_k».proof.Proof.KernelIdealRun

@[expose] public section

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg1 : Memref sig .tc .vmem S1x3x4096 .f32) (harg1 : arg1.IsWhole)
    (arg2 : Memref sig .tc .vmem S1x4096x3 .f32) (harg2 : arg2.IsWhole) (arg3 : Memref sig .tc .vmem S1x3x4096 .f32) (harg3 : arg3.IsWhole)
    (arg4 : Memref sig .tc .vmem S1x1x8 .f32) (harg4 : arg4.IsWhole) (arg5 : Memref sig .tc .vmem S3x4096 .f32) (harg5 : arg5.IsWhole)
    (arg6 : Memref sig .tc .vmem S3x4096 .f32) (harg6 : arg6.IsWhole)

/-- One block: from the three input blocks at given contents, and the result block and the two scratch arrays at any, the body
    runs to its end with the input blocks as they were and the result block at the value of the input blocks. -/
theorem body_runs (x1 : Vec F S1x3x4096 .f32) (x2 : Vec F S1x4096x3 .f32) (x3 : Vec F S1x3x4096 .f32) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg4 fullShare d) ∗ Held (F := F) c arg5 ∗ Held (F := F) c arg6
        ∗ (iprop(owns (c : Thread nD τ) arg1 fullShare x1 ∗ owns (c : Thread nD τ) arg2 fullShare x2 ∗ owns (c : Thread nD τ) arg3 fullShare x3
            ∗ owns (c : Thread nD τ) arg4 fullShare (kOut x1 x2 x3) ∗ Held (F := F) c arg5 ∗ Held (F := F) c arg6) -∗ K ⟨⟩))
      ⊢ wp frame (wpE (defs₀ (F := F)) 𝒱₀ (c : Thread nD τ) none) Set.univ (cc0__icp_body (F := F) i arg1 harg1 arg2 harg2 arg3 harg3 arg4 harg4 arg5 harg5 arg6 harg6) K := by
  unfold owns
  iintro ⟨⟨%f1, %hf1, H1⟩, ⟨%f2, %hf2, H2⟩, ⟨%f3, %hf3, H3⟩, ⟨%d4, %f4, -, H4⟩, ⟨%f5, H5⟩, ⟨%f6, H6⟩, Hk⟩
  obtain rfl := harg1.eq_unread hf1; obtain rfl := harg2.eq_unread hf2; obtain rfl := harg3.eq_unread hf3
  rw [icp_body]
  have h0 : View.read (Elt F) arg5.view (arg5.view.writes (Elt F) arg5.view.junk
      [⟨Rect.unit ![0, 0] S3x4096.size Gen.inb_S3x4096_S3x4096_0_0, Gen.k0_pay205
        (View.readAt (Elt F) arg1.view (Rect.unit (s := S1x3x4096) ![0, 0, 0] S1x3x4096.size Gen.inb_S1x3x4096_S1x3x4096_0_0_0).toLoadRect (harg1.unread x1))⟩])
      = icp x1 x2 x3 0 := by
    rw [View.read_writes_full, readAt_unread_fun]
    exact congrArg _ (ld_whole3 x1)
  sl_exec
  obtain rfl := harg5.eq_unread hL4
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro
    rw [View.read_writes_full]
    simp only [readAt_unread_fun]
    rfl
  isplitl [H5]; · iexists _; iexact H5
  iexists _; iexact H6

end Cert.Proof.KernelIdeal

end
-- ==== Proof.KernelIdealFrame.lean ====
/-
  The run of the whole kernel with its values: every run ends, with its two arguments as they were, every semaphore at
  zero, and each block of the region's result at the value of that block's inputs.
-/
module

public import proofs.«01_k».proof.Proof.KernelIdealBlock
public import Idealize.ShloMosaic.Lib.Quiescent

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The arrays as the region finds them; each input's block stays in its staging buffer; the result's is the block's value. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => kOut (iblk m c 0 t) (iblk m c 1 t) (iblk m c 2 t)
  Φ _ := Pipeline.ΦA spec0 c
  q _ := fullShare
  owed _ := 0

/-- Each window's array at the region's entry. -/
theorem A_eq (c : Dev nD) (w : Fin cfg0.W) : (dats m 0 c).A w = V m c (Pipeline.arrRef spec0 w) := rfl
/-- The first input's block is left as it was. -/
theorem after0_0 (c : Dev nD) (t : Fin cfg0.N) : (dats m 0 c).after 0 t = iblk m c 0 t := by dsimp only [dats]
/-- The second input's block is left as it was. -/
theorem after0_1 (c : Dev nD) (t : Fin cfg0.N) : (dats m 0 c).after 1 t = iblk m c 1 t := by dsimp only [dats]
/-- The third input's block is left as it was. -/
theorem after0_2 (c : Dev nD) (t : Fin cfg0.N) : (dats m 0 c).after 2 t = iblk m c 2 t := by dsimp only [dats]
/-- The output's block is left at the body's result. -/
theorem after0_3 (c : Dev nD) (t : Fin cfg0.N) : (dats m 0 c).after 3 t = kOut (iblk m c 0 t) (iblk m c 1 t) (iblk m c 2 t) := by dsimp only [dats]
/-- What the body finds in the first input's block. -/
theorem before0_0 (c : Dev nD) (t : Fin cfg0.N) (d) : (dats m 0 c).before 0 t d = iblk m c 0 t :=
  before0_0_of m (dats m 0 c) (A_eq m c 0) (after0_0 m c) t d
/-- What the body finds in the second input's block. -/
theorem before0_1 (c : Dev nD) (t : Fin cfg0.N) (d) : (dats m 0 c).before 1 t d = iblk m c 1 t :=
  before0_1_of m (dats m 0 c) (A_eq m c 1) (after0_1 m c) t d
/-- What the body finds in the third input's block. -/
theorem before0_2 (c : Dev nD) (t : Fin cfg0.N) (d) : (dats m 0 c).before 2 t d = iblk m c 2 t :=
  before0_2_of m (dats m 0 c) (A_eq m c 2) (after0_2 m c) t d

/-- The region's scratch: the two arrays and the generator register. -/
theorem scratch_eq (c : Dev nD) : (Pipeline.ΦA spec0 c : sProp 𝕄)
    = iprop((Held (F := F) c (Memref.whole cc0_scratch0) ∗ Held (F := F) c (Memref.whole cc0_scratch1)) ∗ ∃ r, prngReg c r) := by
  unfold Pipeline.ΦA
  rw [scopedRest0_eq]
  simp only [Held, Memref.view_whole, View.set_whole]

/-- One grid point. -/
theorem body_obligation (c : Dev nD) :
    BodyObligation (dats (F := F) m 0 c) (defs₀ (F := F)) 𝒱₀ () Set.univ := fun t => by
  rw [bigSep_W0, bigSep_W0]
  sl_whnfR [defs₀, Defs.onTc]
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3, scratch_eq]
  iintro ⟨⟨⟨H5, H6⟩, Hg⟩, Ho, ⟨%d0, H1⟩, ⟨%d1, H2⟩, ⟨%d2, H3⟩, ⟨%d3, H4⟩⟩
  iapply (body_runs (F := F) c _ _ _ _ _ _ _ _ _ _ _ _ _ (iblk m c 0 t) (iblk m c 1 t) (iblk m c 2 t) _)
  isplitl [H1]; · iexact H1
  isplitl [H2]; · iexact H2
  isplitl [H3]; · iexact H3
  isplitl [H4]; · iexists _; iexact H4
  isplitl [H5]; · iexact H5
  isplitl [H6]; · iexact H6
  iintro ⟨H1, H2, H3, H4, H5, H6⟩
  isplitl [H5 H6 Hg]
  · isplitl [H5 H6]
    · isplitl [H5]; · iexact H5
      iexact H6
    iexact Hg
  isplitl [Ho]; · iexact Ho
  isplitl [H1]; · iexact H1
  isplitl [H2]; · iexact H2
  isplitl [H3]; · iexact H3
  iexact H4

set_option backward.isDefEq.respectTransparency.types false in
/-- The whole program runs to its end, every array of the region at what its blocks were left at. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh)
    (hkeep := sfx_keeps) (hmain := hmain m 𝒱₀) (hA := fun _ _ => rfl) (hΦ := fun _ _ => rfl)

/-- Its two arguments end as they were, its semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  θ_run_with_sems (frame_of m ρ (dats m) fun _ _ => rfl) (run_main m ρ)

end Cert.Proof.KernelIdeal

end
-- ==== Proof.RefOps.lean ====
/-
  The reference's vector operations grouped into what they compute: matrices from their entries, plane rotations,
  the alignment of two clouds, the nearest points.
-/
module

public import proofs.«01_k».proof.Proof.Gen.ReferenceIdeal.Skeleton
public import Idealize.ShloMosaic.Lib.Tactic

@[expose] public section

noncomputable section

namespace Cert.Proof.ReferenceIdeal

open Cert.ReferenceIdeal Cert.ReferenceIdeal.Gen
open Idealize.ShloMosaic Idealize.ShloMosaic.TcCoe Idealize.ShloMosaic.Tactic
open Idealize.SL.Sem

variable {F : FTy → Type} [FloatOps F]

/-- Row and column numbers of the square matrices. -/
def ri4 : IVec S2x4x4 32 := iota .tc S2x4x4 32 [1] iota_S2x4x4_d1_w32
/-- The column of each place of a 4x4 matrix. -/
def ci4 : IVec S2x4x4 32 := iota .tc S2x4x4 32 [2] iota_S2x4x4_d2_w32
/-- The row of each place of a 3x3 matrix. -/
def ri3 : IVec S2x3x3 32 := iota .tc S2x3x3 32 [1] iota_S2x3x3_d1_w32
/-- The column of each place of a 3x3 matrix. -/
def ci3 : IVec S2x3x3 32 := iota .tc S2x3x3 32 [2] iota_S2x3x3_d2_w32

/-- One number per cloud, over the whole matrix. -/
def bc4 (x : FVec F S2x1x1 .f32) : FVec F S2x4x4 .f32 :=
  broadcastTo S2x4x4 (shapeCast S2x1x1 x shapeCasts_S2x1x1_S2x1x1) broadcasts_S2x1x1_S2x4x4
/-- One number at every place of a 3x3 matrix. -/
def bc3 (x : FVec F S2x1x1 .f32) : FVec F S2x3x3 .f32 :=
  broadcastTo S2x3x3 (shapeCast S2x1x1 x shapeCasts_S2x1x1_S2x1x1) broadcasts_S2x1x1_S2x3x3

/-- The places of a matrix at which the row is `p` and the column `q`. -/
def at4 (p q : BitVec 32) : IVec S2x4x4 1 := andi (cmpi .eq ri4 (broadcast S2x4x4 p)) (cmpi .eq ci4 (broadcast S2x4x4 q))
/-- Which place is (p, q). -/
def at3 (p q : BitVec 32) : IVec S2x3x3 1 := andi (cmpi .eq ri3 (broadcast S2x3x3 p)) (cmpi .eq ci3 (broadcast S2x3x3 q))

/-- A matrix with one entry replaced. -/
def put4 (p q : BitVec 32) (x : FVec F S2x1x1 .f32) (M : FVec F S2x4x4 .f32) : FVec F S2x4x4 .f32 := select (at4 p q) (bc4 x) M
/-- The matrix with `x` put at (p, q). -/
def put3 (p q : BitVec 32) (x : FVec F S2x1x1 .f32) (M : FVec F S2x3x3 .f32) : FVec F S2x3x3 .f32 := select (at3 p q) (bc3 x) M

/-- The numbers one, zero, two and minus one, per cloud. -/
def one1 : FVec F S2x1x1 .f32 := broadcast S2x1x1 (Scalar.ofBits .f32 0x3F800000#32)
/-- Zero. -/
def zero1 : FVec F S2x1x1 .f32 := broadcast S2x1x1 (Scalar.ofBits .f32 0x00000000#32)
/-- Two. -/
def two1 : FVec F S2x1x1 .f32 := broadcast S2x1x1 (Scalar.ofBits .f32 0x40000000#32)
/-- Minus one. -/
def neg1 : FVec F S2x1x1 .f32 := broadcast S2x1x1 (Scalar.ofBits .f32 0xBF800000#32)

/-- The identity. -/
def eye : FVec F S2x4x4 .f32 := select (cmpi .eq ri4 ci4) (broadcast S2x4x4 (Scalar.ofBits .f32 0x3F800000#32)) (broadcast S2x4x4 (Scalar.ofBits .f32 0x00000000#32))

/-- The slices at the entries of a plane. -/
structure Pair (p q : ℕ) : Prop where
  pp : S2x4x4.Slices ![0, p, p] S2x1x1
  qq : S2x4x4.Slices ![0, q, q] S2x1x1
  pq : S2x4x4.Slices ![0, p, q] S2x1x1

/-- The tangent of the rotation that clears the entry `apq`. -/
def rTan (app aqq apq : FVec F S2x1x1 .f32) : FVec F S2x1x1 .f32 :=
  let tau := divf (subf aqq app) (mulf two1 (select (cmpf .oeq apq zero1) one1 apq))
  let t := divf (select (cmpf .olt tau zero1) neg1 one1) (addf (absf tau) (sqrt (addf one1 (mulf tau tau))))
  select (cmpf .oeq apq zero1) zero1 t
/-- Its cosine, from the tangent. -/
def rCos (t : FVec F S2x1x1 .f32) : FVec F S2x1x1 .f32 := divf one1 (sqrt (addf one1 (mulf t t)))
/-- The tangent for the plane `p, q` of a matrix. -/
def rTanOf (p q : ℕ) (h : Pair p q) (A : FVec F S2x4x4 .f32) : FVec F S2x1x1 .f32 :=
  rTan (extractStridedSlice S2x1x1 ![0, p, p] A h.pp) (extractStridedSlice S2x1x1 ![0, q, q] A h.qq) (extractStridedSlice S2x1x1 ![0, p, q] A h.pq)

/-- The plane rotation as a matrix. -/
def rJ (p q : BitVec 32) (c s : FVec F S2x1x1 .f32) : FVec F S2x4x4 .f32 :=
  select (at4 p q) (bc4 s) (select (at4 q p) (bc4 (subf zero1 s))
    (select (andi (cmpi .eq ri4 ci4) (ori (cmpi .eq ri4 (broadcast S2x4x4 p)) (cmpi .eq ri4 (broadcast S2x4x4 q)))) (bc4 c) eye))

/-- `J^T A`, and `A J`. -/
def mulT (J A : FVec F S2x4x4 .f32) : FVec F S2x4x4 .f32 := matmul dot_S2x4x4_S2x4x4_S2x4x4_1_1_2_2_0_0 none J A (constant S2x4x4 .f32 0x00000000#32)
/-- The product of two 4x4 matrices. -/
def mulR (A J : FVec F S2x4x4 .f32) : FVec F S2x4x4 .f32 := matmul dot_S2x4x4_S2x4x4_S2x4x4_2_1_1_2_0_0 none A J (constant S2x4x4 .f32 0x00000000#32)

/-- One rotation: `A <- J^T A J`, `V <- V J`. -/
def rRot (p q : ℕ) (h : Pair p q) (AV : FVec F S2x4x4 .f32 × FVec F S2x4x4 .f32) : FVec F S2x4x4 .f32 × FVec F S2x4x4 .f32 :=
  let t := rTanOf p q h AV.1
  let J := rJ (BitVec.ofNat 32 p) (BitVec.ofNat 32 q) (rCos t) (mulf t (rCos t))
  (mulR (mulT J AV.1) J, mulR AV.2 J)

/-- The pair (0, 1). -/
theorem pair01 : Pair 0 1 := ⟨slices_S2x4x4_o0_0_0_S2x1x1, slices_S2x4x4_o0_1_1_S2x1x1, slices_S2x4x4_o0_0_1_S2x1x1⟩
/-- The pair (0, 2). -/
theorem pair02 : Pair 0 2 := ⟨slices_S2x4x4_o0_0_0_S2x1x1, slices_S2x4x4_o0_2_2_S2x1x1, slices_S2x4x4_o0_0_2_S2x1x1⟩
/-- The pair (0, 3). -/
theorem pair03 : Pair 0 3 := ⟨slices_S2x4x4_o0_0_0_S2x1x1, slices_S2x4x4_o0_3_3_S2x1x1, slices_S2x4x4_o0_0_3_S2x1x1⟩
/-- The pair (1, 2). -/
theorem pair12 : Pair 1 2 := ⟨slices_S2x4x4_o0_1_1_S2x1x1, slices_S2x4x4_o0_2_2_S2x1x1, slices_S2x4x4_o0_1_2_S2x1x1⟩
/-- The pair (1, 3). -/
theorem pair13 : Pair 1 3 := ⟨slices_S2x4x4_o0_1_1_S2x1x1, slices_S2x4x4_o0_3_3_S2x1x1, slices_S2x4x4_o0_1_3_S2x1x1⟩
/-- The pair (2, 3). -/
theorem pair23 : Pair 2 3 := ⟨slices_S2x4x4_o0_2_2_S2x1x1, slices_S2x4x4_o0_3_3_S2x1x1, slices_S2x4x4_o0_2_3_S2x1x1⟩

/-- One sweep: the six planes in order. -/
def rSweep (AV : FVec F S2x4x4 .f32 × FVec F S2x4x4 .f32) : FVec F S2x4x4 .f32 × FVec F S2x4x4 .f32 :=
  rRot 2 3 pair23 (rRot 1 3 pair13 (rRot 1 2 pair12 (rRot 0 3 pair03 (rRot 0 2 pair02 (rRot 0 1 pair01 AV)))))

/-- The mean of a cloud. -/
def rMean (x : FVec F S2x4096x3 .f32) : FVec F S2x1x3 .f32 :=
  divf (shapeCast S2x1x3 (multiReduction .add [1] S2x3 x 0x00000000#32 reduces_S2x4096x3_S2x3 (.inl rfl) rfl) shapeCasts_S2x3_S2x1x3)
    (broadcast S2x1x3 (Scalar.ofBits .f32 0x45800000#32))
/-- A cloud about its mean. -/
def rCent (x : FVec F S2x4096x3 .f32) : FVec F S2x4096x3 .f32 := subf x (broadcastTo S2x4096x3 (rMean x) broadcasts_S2x1x3_S2x4096x3)
/-- The correlation of two clouds. -/
def rH (x y : FVec F S2x4096x3 .f32) : FVec F S2x3x3 .f32 :=
  matmul dot_S2x4096x3_S2x4096x3_S2x3x3_1_1_2_2_0_0 none (rCent x) (rCent y) (constant S2x3x3 .f32 0x00000000#32)

/-- Entry (0, 0) of the cross-covariance. -/
def h00 (H : FVec F S2x3x3 .f32) : FVec F S2x1x1 .f32 := extractStridedSlice S2x1x1 ![0, 0, 0] H slices_S2x3x3_o0_0_0_S2x1x1
/-- Entry (0, 1) of the cross-covariance. -/
def h01 (H : FVec F S2x3x3 .f32) : FVec F S2x1x1 .f32 := extractStridedSlice S2x1x1 ![0, 0, 1] H slices_S2x3x3_o0_0_1_S2x1x1
/-- Entry (0, 2) of the cross-covariance. -/
def h02 (H : FVec F S2x3x3 .f32) : FVec F S2x1x1 .f32 := extractStridedSlice S2x1x1 ![0, 0, 2] H slices_S2x3x3_o0_0_2_S2x1x1
/-- Entry (1, 0) of the cross-covariance. -/
def h10 (H : FVec F S2x3x3 .f32) : FVec F S2x1x1 .f32 := extractStridedSlice S2x1x1 ![0, 1, 0] H slices_S2x3x3_o0_1_0_S2x1x1
/-- Entry (1, 1) of the cross-covariance. -/
def h11 (H : FVec F S2x3x3 .f32) : FVec F S2x1x1 .f32 := extractStridedSlice S2x1x1 ![0, 1, 1] H slices_S2x3x3_o0_1_1_S2x1x1
/-- Entry (1, 2) of the cross-covariance. -/
def h12 (H : FVec F S2x3x3 .f32) : FVec F S2x1x1 .f32 := extractStridedSlice S2x1x1 ![0, 1, 2] H slices_S2x3x3_o0_1_2_S2x1x1
/-- Entry (2, 0) of the cross-covariance. -/
def h20 (H : FVec F S2x3x3 .f32) : FVec F S2x1x1 .f32 := extractStridedSlice S2x1x1 ![0, 2, 0] H slices_S2x3x3_o0_2_0_S2x1x1
/-- Entry (2, 1) of the cross-covariance. -/
def h21 (H : FVec F S2x3x3 .f32) : FVec F S2x1x1 .f32 := extractStridedSlice S2x1x1 ![0, 2, 1] H slices_S2x3x3_o0_2_1_S2x1x1
/-- Entry (2, 2) of the cross-covariance. -/
def h22 (H : FVec F S2x3x3 .f32) : FVec F S2x1x1 .f32 := extractStridedSlice S2x1x1 ![0, 2, 2] H slices_S2x3x3_o0_2_2_S2x1x1

/-- The symmetric matrix whose greatest eigenvalue's vector is the rotation's quaternion. -/
def rHorn (H : FVec F S2x3x3 .f32) : FVec F S2x4x4 .f32 :=
  put4 3#32 3#32 (subf (subf (h22 H) (h00 H)) (h11 H))
    (put4 3#32 2#32 (addf (h12 H) (h21 H))
    (put4 3#32 1#32 (addf (h20 H) (h02 H))
    (put4 3#32 0#32 (subf (h01 H) (h10 H))
    (put4 2#32 3#32 (addf (h12 H) (h21 H))
    (put4 2#32 2#32 (subf (subf (h11 H) (h00 H)) (h22 H))
    (put4 2#32 1#32 (addf (h01 H) (h10 H))
    (put4 2#32 0#32 (subf (h20 H) (h02 H))
    (put4 1#32 3#32 (addf (h20 H) (h02 H))
    (put4 1#32 2#32 (addf (h01 H) (h10 H))
    (put4 1#32 1#32 (subf (subf (h00 H) (h11 H)) (h22 H))
    (put4 1#32 0#32 (subf (h12 H) (h21 H))
    (put4 0#32 3#32 (subf (h01 H) (h10 H))
    (put4 0#32 2#32 (subf (h20 H) (h02 H))
    (put4 0#32 1#32 (subf (h12 H) (h21 H))
    (put4 0#32 0#32 (addf (addf (h00 H) (h11 H)) (h22 H))
    (broadcast S2x4x4 (Scalar.ofBits .f32 0x00000000#32)))))))))))))))))

/-- The column of `V` at the first greatest diagonal entry of `A`. -/
def rQuat (AV : FVec F S2x4x4 .f32 × FVec F S2x4x4 .f32) : FVec F S2x4x1 .f32 :=
  let lam := shapeCast S2x1x4 (multiReduction .add [1] S2x4 (select (cmpi .eq ri4 ci4) AV.1 (broadcast S2x4x4 (Scalar.ofBits .f32 0x00000000#32))) 0x00000000#32 reduces_S2x4x4_S2x4 (.inl rfl) rfl) shapeCasts_S2x4_S2x1x4
  let col : IVec S2x1x4 32 := iota .tc S2x1x4 32 [2] iota_S2x1x4_d2_w32
  let top := shapeCast S2x1x1 (multiReduction .maximumf [2] S2x1 lam 0xFF800000#32 reduces_S2x1x4_S2x1 (.inl rfl) rfl) shapeCasts_S2x1_S2x1x1
  let best : IVec S2x1x1 32 := shapeCast S2x1x1 (multiReductionI .minsi [2] S2x1 (select (cmpf .oeq lam (broadcastTo S2x1x4 top broadcasts_S2x1x1_S2x1x4)) col (broadcast S2x1x4 4#32)) 2147483647#32 reduces_S2x1x4_S2x1 rfl) shapeCasts_S2x1_S2x1x1
  let hit : IVec S2x1x4 1 := cmpi .eq col (broadcastTo S2x1x4 best broadcasts_S2x1x1_S2x1x4)
  shapeCast S2x4x1 (multiReduction .add [2] S2x4 (select (broadcastTo S2x4x4 (shapeCast S2x1x4 hit shapeCasts_S2x1x4_S2x1x4) broadcasts_S2x1x4_S2x4x4) AV.2 (broadcast S2x4x4 (Scalar.ofBits .f32 0x00000000#32))) 0x00000000#32 reduces_S2x4x4_S2x4_2 (.inl rfl) rfl) shapeCasts_S2x4_S2x4x1

/-- The quaternion's first entry. -/
def qw (q : FVec F S2x4x1 .f32) : FVec F S2x1x1 .f32 := extractStridedSlice S2x1x1 ![0, 0, 0] q slices_S2x4x1_o0_0_0_S2x1x1
/-- The quaternion's second entry. -/
def qx (q : FVec F S2x4x1 .f32) : FVec F S2x1x1 .f32 := extractStridedSlice S2x1x1 ![0, 1, 0] q slices_S2x4x1_o0_1_0_S2x1x1
/-- The quaternion's third entry. -/
def qy (q : FVec F S2x4x1 .f32) : FVec F S2x1x1 .f32 := extractStridedSlice S2x1x1 ![0, 2, 0] q slices_S2x4x1_o0_2_0_S2x1x1
/-- The quaternion's fourth entry. -/
def qz (q : FVec F S2x4x1 .f32) : FVec F S2x1x1 .f32 := extractStridedSlice S2x1x1 ![0, 3, 0] q slices_S2x4x1_o0_3_0_S2x1x1

/-- The three shapes of a rotation's entries: `1 - 2 (a a + b b)`, `2 (a b + c d)`, `2 (a b - c d)`. -/
def rDiag (a b : FVec F S2x1x1 .f32) : FVec F S2x1x1 .f32 := subf one1 (mulf two1 (addf (mulf a a) (mulf b b)))
/-- `2 (a b + c d)`. -/
def rPlus (a b c d : FVec F S2x1x1 .f32) : FVec F S2x1x1 .f32 := mulf two1 (addf (mulf a b) (mulf c d))
/-- `2 (a b - c d)`. -/
def rMinus (a b c d : FVec F S2x1x1 .f32) : FVec F S2x1x1 .f32 := mulf two1 (subf (mulf a b) (mulf c d))

/-- The rotation of a quaternion. -/
def rR (q : FVec F S2x4x1 .f32) : FVec F S2x3x3 .f32 :=
  put3 2#32 2#32 (rDiag (qx q) (qy q)) (put3 2#32 1#32 (rPlus (qy q) (qz q) (qw q) (qx q)) (put3 2#32 0#32 (rMinus (qx q) (qz q) (qw q) (qy q))
    (put3 1#32 2#32 (rMinus (qy q) (qz q) (qw q) (qx q)) (put3 1#32 1#32 (rDiag (qx q) (qz q)) (put3 1#32 0#32 (rPlus (qx q) (qy q) (qw q) (qz q))
      (put3 0#32 2#32 (rPlus (qx q) (qz q) (qw q) (qy q)) (put3 0#32 1#32 (rMinus (qx q) (qy q) (qw q) (qz q)) (put3 0#32 0#32 (rDiag (qy q) (qz q))
        (broadcast S2x3x3 (Scalar.ofBits .f32 0x00000000#32))))))))))

/-- The rotation that brings one cloud nearest to the other. -/
def rRigid (x y : FVec F S2x4096x3 .f32) : FVec F S2x3x3 .f32 := rR (rQuat (rSweep^[6] (rHorn (rH x y), eye)))
/-- The translation that goes with it. -/
def rShift (R : FVec F S2x3x3 .f32) (x y : FVec F S2x4096x3 .f32) : FVec F S2x1x3 .f32 :=
  subf (rMean y) (matmul dot_S2x1x3_S2x3x3_S2x1x3_2_2_1_1_0_0 none (rMean x) R (constant S2x1x3 .f32 0x00000000#32))
/-- A cloud turned and moved. -/
def rApply (R : FVec F S2x3x3 .f32) (t : FVec F S2x1x3 .f32) (x : FVec F S2x4096x3 .f32) : FVec F S2x4096x3 .f32 :=
  addf (matmul dot_S2x4096x3_S2x3x3_S2x4096x3_2_2_1_1_0_0 none x R (constant S2x4096x3 .f32 0x00000000#32)) (broadcastTo S2x4096x3 t broadcasts_S2x1x3_S2x4096x3)
/-- Of each point the nearest of the other cloud. -/
def rNearest (y x : FVec F S2x4096x3 .f32) : FVec F S2x4096x3 .f32 := k0_pay52 y x

/-- One iteration. -/
def rStep (y x : FVec F S2x4096x3 .f32) : FVec F S2x4096x3 .f32 :=
  rApply (rRigid x (rNearest y x)) (rShift (rRigid x (rNearest y x)) x (rNearest y x)) x
/-- The rotation found. -/
def rotOut (x y : FVec F S2x4096x3 .f32) : FVec F S2x3x3 .f32 := rRigid x ((rStep y)^[10] x)
/-- The translation found. -/
def transOut (x y : FVec F S2x4096x3 .f32) : FVec F S2x1x3 .f32 := rShift (rotOut x y) x ((rStep y)^[10] x)

/-- A fold of one function over a count is its iterate. -/
theorem fold_const {A : Type} (n : ℕ) (f : A → A) (x : A) : Scf.fold (fun (_ : Fin n) => f) x = f^[n] x := by
  rw [Scf.fold_eq, List.foldl_const, List.length_finRange]

end Cert.Proof.ReferenceIdeal

end
-- ==== Proof.RefBody.lean ====
/-
  The reference's printed body as values: two loads and two stores are what is left.
-/
module

public import proofs.«01_k».proof.Proof.RefOps

@[expose] public section

noncomputable section

namespace Cert.Proof.ReferenceIdeal

open Cert.ReferenceIdeal Cert.ReferenceIdeal.Gen
open Idealize.ShloMosaic Idealize.ShloMosaic.TcCoe Idealize.ShloMosaic.Tactic
open Idealize.SL.Sem

variable {F : FTy → Type} [FloatOps F]

variable (arg0 : Memref sig .tc .vmem S2x4096x3 .f32) (harg0 : arg0.IsWhole) (arg1 : Memref sig .tc .vmem S2x4096x3 .f32) (harg1 : arg1.IsWhole)
    (arg2 : Memref sig .tc .vmem S2x3x3 .f32) (harg2 : arg2.IsWhole) (arg3 : Memref sig .tc .vmem S2x1x3 .f32) (harg3 : arg3.IsWhole)

set_option maxRecDepth 65536 in
/-- One sweep of an iteration. -/
theorem t2_body (v412) (v414) (v415) (v416) (v529) (v534) (k : Fin k0_t2_loop.trips) (AV : FVec F S2x4x4 .f32 × FVec F S2x4x4 .f32) :
    k0_t2_body arg0 harg0 arg1 harg1 arg2 harg2 arg3 harg3 v412 v414 v415 v416 v529 v534 ri4 ci4 k AV = pure (rSweep AV) := by
  obtain ⟨A, V⟩ := AV
  unfold k0_t2_body
  simp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, pure_bind]
  rfl

/-- The sweeps of an iteration. -/
theorem t2_loop (v412) (v414) (v415) (v416) (v529) (v534) (AV : FVec F S2x4x4 .f32 × FVec F S2x4x4 .f32) :
    Scf.Loop.for k0_t2_loop k0_t2_ok AV (k0_t2_body arg0 harg0 arg1 harg1 arg2 harg2 arg3 harg3 v412 v414 v415 v416 v529 v534 ri4 ci4) = pure (rSweep^[6] AV) := by
  rw [Scf.Loop.for, Scf.for_pure _ _ _ _ _ _ (fun _ => rSweep) (fun k acc => t2_body arg0 harg0 arg1 harg1 arg2 harg2 arg3 harg3 v412 v414 v415 v416 v529 v534 k acc)]
  exact congrArg _ (fold_const _ _ _)

set_option maxRecDepth 65536 in
/-- One sweep of the final alignment. -/
theorem t3_body (v40) (v41) (v42) (v43) (v45) (v46) (v47) (v136) (v138) (v140) (k : Fin k0_t3_loop.trips) (AV : FVec F S2x4x4 .f32 × FVec F S2x4x4 .f32) :
    k0_t3_body arg0 harg0 arg1 harg1 arg2 harg2 arg3 harg3 v40 v41 v42 v43 v45 v46 v47 v136 v138 v140 ri4 ci4 k AV = pure (rSweep AV) := by
  obtain ⟨A, V⟩ := AV
  unfold k0_t3_body
  simp only [k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, pure_bind]
  rfl

/-- The sweeps of the final alignment. -/
theorem t3_loop (v40) (v41) (v42) (v43) (v45) (v46) (v47) (v136) (v138) (v140) (AV : FVec F S2x4x4 .f32 × FVec F S2x4x4 .f32) :
    Scf.Loop.for k0_t3_loop k0_t3_ok AV (k0_t3_body arg0 harg0 arg1 harg1 arg2 harg2 arg3 harg3 v40 v41 v42 v43 v45 v46 v47 v136 v138 v140 ri4 ci4) = pure (rSweep^[6] AV) := by
  rw [Scf.Loop.for, Scf.for_pure _ _ _ _ _ _ (fun _ => rSweep) (fun k acc => t3_body arg0 harg0 arg1 harg1 arg2 harg2 arg3 harg3 v40 v41 v42 v43 v45 v46 v47 v136 v138 v140 k acc)]
  exact congrArg _ (fold_const _ _ _)

set_option maxRecDepth 65536 in
/-- One iteration. -/
theorem t1_body (v1 : Vec F S2x4096x3 .f32) (k : Fin k0_t1_loop.trips) (x : Vec F S2x4096x3 .f32) :
    k0_t1_body arg0 harg0 arg1 harg1 arg2 harg2 arg3 harg3 v1 k x = pure (rStep v1 x) := by
  unfold k0_t1_body
  simp only [k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, pure_bind]
  have hl := t2_loop (F := F) arg0 harg0 arg1 harg1 arg2 harg2 arg3 harg3
  unfold ri4 ci4 at hl
  simp only [hl, pure_bind]
  rfl

/-- The iterations. -/
theorem t1_loop (v1 x : Vec F S2x4096x3 .f32) :
    Scf.Loop.for k0_t1_loop k0_t1_ok x (k0_t1_body arg0 harg0 arg1 harg1 arg2 harg2 arg3 harg3 v1) = pure ((rStep v1)^[10] x) := by
  rw [Scf.Loop.for, Scf.for_pure _ _ _ _ _ _ (fun _ => rStep v1) (fun k acc => t1_body arg0 harg0 arg1 harg1 arg2 harg2 arg3 harg3 v1 k acc)]
  exact congrArg _ (fold_const _ _ _)

set_option maxRecDepth 65536 in
/-- The body: the two clouds read, the rotation and the translation stored. -/
theorem icp_body : cc0__icp (F := F) arg0 harg0 arg1 harg1 arg2 harg2 arg3 harg3 = (do
    let v0 : Vec F S2x4096x3 .f32 ← Prog.lift (.load arg0 (Rect.unit (s := S2x4096x3) ![0, 0, 0] S2x4096x3.size inb_S2x4096x3_S2x4096x3_0_0_0).toLoadRect (View.loadsAt_vmem h_S2x4096x3))
    let v1 : Vec F S2x4096x3 .f32 ← Prog.lift (.load arg1 (Rect.unit (s := S2x4096x3) ![0, 0, 0] S2x4096x3.size inb_S2x4096x3_S2x4096x3_0_0_0).toLoadRect (View.loadsAt_vmem h_S2x4096x3))
    let _v341 : Vec F S2x3x3 .f32 ← Prog.lift (.load arg2 (Rect.unit (s := S2x3x3) ![0, 0, 0] S2x3x3.size inb_S2x3x3_S2x3x3_0_0_0).toLoadRect (View.loadsAt_vmem h_S2x3x3))
    Prog.lift (.store arg2 (Rect.unit (s := S2x3x3) ![0, 0, 0] S2x3x3.size inb_S2x3x3_S2x3x3_0_0_0) (rotOut v0 v1) Finset.univ (View.stores_vmem_bits_univ h_S2x3x3 rfl) (.inl rfl))
    let _v342 : Vec F S2x1x3 .f32 ← Prog.lift (.load arg3 (Rect.unit (s := S2x1x3) ![0, 0, 0] S2x1x3.size inb_S2x1x3_S2x1x3_0_0_0).toLoadRect (View.loadsAt_vmem h_S2x1x3))
    Prog.lift (.store arg3 (Rect.unit (s := S2x1x3) ![0, 0, 0] S2x1x3.size inb_S2x1x3_S2x1x3_0_0_0) (transOut v0 v1) Finset.univ (View.stores_vmem_bits_univ h_S2x1x3 rfl) (.inl rfl))
    pure ⟨⟩) := by
  have hl := t3_loop (F := F) arg0 harg0 arg1 harg1 arg2 harg2 arg3 harg3
  unfold ri4 ci4 at hl
  rw [cc0__icp_eq_skeleton]
  unfold cc0__icp_skel
  simp only [k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, t1_loop, hl, bind_assoc, pure_bind]
  rfl

end Cert.Proof.ReferenceIdeal

end
-- ==== Proof.RefFrame.lean ====
/-
  The run of the whole reference with its values: every run ends, with its two arguments as they were, every semaphore at
  zero, and the region's two results at their values.
-/
module

public import proofs.«01_k».proof.Proof.RefBody
public import proofs.«01_k».proof.Proof.Gen.ReferenceIdeal.Frame
public import Idealize.ShloMosaic.Lib.Quiescent
public import Idealize.ShloMosaic.Lib.WholeRead
public import Idealize.ShloMosaic.Lib.VecWindow

@[expose] public section

noncomputable section

namespace Cert.Proof.ReferenceIdeal

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The resources of the separation logic. -/
abbrev UU (nD : Nat) (τ : Topo) : Type := UR sig nD τ
/-- No loop variants are needed. -/
abbrev 𝒱₀ : Variants := Variants.none

local notation "𝕄" => MT nD τ sig Unit (Elt F) ℕ (UR sig nD τ) ℕ

/-- A load of a whole cloud reads it as it is. -/
theorem ld_whole {m : Memref sig .tc .vmem S2x4096x3 .f32} (h : m.IsWhole) (X : FVec F S2x4096x3 .f32) :
    View.readAt (Elt F) m.view (Rect.unit (s := S2x4096x3) ![0, 0, 0] S2x4096x3.size inb_S2x4096x3_S2x4096x3_0_0_0).toLoadRect (h.unread X) = X :=
  (funext (Memref.IsWhole.readAt_unread (Val := Elt F) h X (Rect.unit (s := S2x4096x3) ![0, 0, 0] S2x4096x3.size inb_S2x4096x3_S2x4096x3_0_0_0).toLoadRect)).trans
    (View.ld_unit_zero (Val := Elt F) (e := .f32) (S := S2x4096x3) (off := ![0, 0, 0])
      (funext fun a => match a with | ⟨0, _⟩ => rfl | ⟨1, _⟩ => rfl | ⟨2, _⟩ => rfl) inb_S2x4096x3_S2x4096x3_0_0_0 X)

/-- The body on any staging buffers: the two inputs stay, the two results are the values. -/
theorem body_runs (c : Dev nD) (arg0 : Memref sig .tc .vmem S2x4096x3 .f32) (harg0 : arg0.IsWhole) (arg1 : Memref sig .tc .vmem S2x4096x3 .f32) (harg1 : arg1.IsWhole)
    (arg2 : Memref sig .tc .vmem S2x3x3 .f32) (harg2 : arg2.IsWhole) (arg3 : Memref sig .tc .vmem S2x1x3 .f32) (harg3 : arg3.IsWhole)
    (x0 x1 : Vec F S2x4096x3 .f32) (K : PUnit → sProp 𝕄) :
    iprop(owns (c : Thread nD τ) arg0 fullShare x0 ∗ owns (c : Thread nD τ) arg1 fullShare x1
        ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare x1
            ∗ owns (c : Thread nD τ) arg2 fullShare (rotOut x0 x1) ∗ owns (c : Thread nD τ) arg3 fullShare (transOut x0 x1)) -∗ K ⟨⟩))
      ⊢ wp frame (wpE (defs₀ (F := F)) 𝒱₀ (c : Thread nD τ) none) Set.univ (cc0__icp (F := F) arg0 harg0 arg1 harg1 arg2 harg2 arg3 harg3) K := by
  unfold owns
  iintro ⟨⟨%f0, %hf0, H0⟩, ⟨%f1, %hf1, H1⟩, ⟨%d2, %f2, -, H2⟩, ⟨%d3, %f3, -, H3⟩, Hk⟩
  obtain rfl := harg0.eq_unread hf0; obtain rfl := harg1.eq_unread hf1
  rw [icp_body]
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; swap; · iexact H2
    ipureintro
    rw [View.read_writes_full, ld_whole, ld_whole]
  iexists _; isplitr; swap; · iexact H3
  ipureintro
  rw [View.read_writes_full, ld_whole, ld_whole]

variable (m : (ℓ : Loc nD τ sig) → Buf (Elt F) ℓ) (ρ : Dev nD → PrngReg)

/-- The arrays as the region finds them; the inputs stay in their staging buffers; the results are the values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rotOut (iblk m c 0 t) (iblk m c 1 t)
    | ⟨3, _⟩ => transOut (iblk m c 0 t) (iblk m c 1 t)
  Φ _ := Pipeline.ΦA spec0 c
  q _ := fullShare
  owed _ := 0

/-- Each window's array at the region's entry. -/
theorem A_eq (c : Dev nD) (w : Fin cfg0.W) : (dats m 0 c).A w = V m c (Pipeline.arrRef spec0 w) := rfl
/-- The first input's block is left as it was. -/
theorem after0_0 (c : Dev nD) (t : Fin cfg0.N) : (dats m 0 c).after 0 t = iblk m c 0 t := by dsimp only [dats]
/-- The second input's block is left as it was. -/
theorem after0_1 (c : Dev nD) (t : Fin cfg0.N) : (dats m 0 c).after 1 t = iblk m c 1 t := by dsimp only [dats]
/-- The rotations' block is left at the body's rotations. -/
theorem after0_2 (c : Dev nD) (t : Fin cfg0.N) : (dats m 0 c).after 2 t = rotOut (iblk m c 0 t) (iblk m c 1 t) := by dsimp only [dats]
/-- The shifts' block is left at the body's shifts. -/
theorem after0_3 (c : Dev nD) (t : Fin cfg0.N) : (dats m 0 c).after 3 t = transOut (iblk m c 0 t) (iblk m c 1 t) := by dsimp only [dats]
/-- What the body finds in the first input's block. -/
theorem before0_0 (c : Dev nD) (t : Fin cfg0.N) (d) : (dats m 0 c).before 0 t d = iblk m c 0 t :=
  before0_0_of m (dats m 0 c) (A_eq m c 0) (after0_0 m c) t d
/-- What the body finds in the second input's block. -/
theorem before0_1 (c : Dev nD) (t : Fin cfg0.N) (d) : (dats m 0 c).before 1 t d = iblk m c 1 t :=
  before0_1_of m (dats m 0 c) (A_eq m c 1) (after0_1 m c) t d
/-- The one point. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1]
  rw [show (dats m 0 c).Φ t.succ = (dats m 0 c).Φ t.castSucc from rfl,
    show (dats m 0 c).owesAt () t.succ = (dats m 0 c).owesAt () t.castSucc from rfl, after0_0, after0_1, after0_2, after0_3]
  iintro ⟨HΦ, Ho, ⟨%d0, H0⟩, ⟨%d1, H1⟩, ⟨%d2, H2⟩, ⟨%d3, H3⟩⟩
  iapply (body_runs (F := F) c _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

set_option backward.isDefEq.respectTransparency.types false in
/-- The whole program runs to its end, every array of the region at what the body left. -/
theorem run_main : θ_run defs (onTc (τ := τ) (main (F := F))) (s₀ m ρ)
    (fun r => Pipeline.FramePost cfgs (dats m) 0 (Pipeline.afterTail₀ cfgs (dats m) 0 (V0 m) [hostOps1, hostOps1_1, hostOps1_2, hostOps1_3, hostOps1_4]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4]) (hsub := sfx_sub) (hfresh := sfx_fresh)
    (hkeep := sfx_keeps) (hmain := hmain m 𝒱₀) (hA := fun _ _ => rfl) (hΦ := fun _ _ => rfl)

/-- Its two arguments end as they were, its semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  θ_run_with_sems (frame_of m ρ (dats m) fun _ _ => rfl) (run_main m ρ)

end Cert.Proof.ReferenceIdeal

end
-- ==== Proof.Model.lean ====
/-
  The problem over the real numbers, for one cloud of each kind: nearest points, plane rotations, the quaternion of the
  greatest eigenvalue, the step, and the pose. Nothing here speaks of a program.
-/
module

public import Idealize.ShloMosaic.Lib.IdealHost
public import Idealize.ShloMosaic.Lib.Pointwise

@[expose] public section

noncomputable section

namespace Cert.Proof.Model

/-- A cloud: three coordinates of 4096 points. -/
abbrev Cloud : Type := Fin 3 → Fin 4096 → ℝ
/-- A 3x3 matrix. -/
abbrev M3 : Type := Fin 3 → Fin 3 → ℝ
/-- A 4x4 matrix. -/
abbrev M4 : Type := Fin 4 → Fin 4 → ℝ
/-- Four numbers, the quaternion's real one first. -/
abbrev Quat : Type := Fin 4 → ℝ

/-- `i` is the first place with `P`. -/
def IsFirst {n : ℕ} (P : Fin n → Prop) (i : Fin n) : Prop := P i ∧ ∀ j, P j → i ≤ j

/-- There is one first place at most. -/
theorem IsFirst.unique {n : ℕ} {P : Fin n → Prop} {i j : Fin n} (hi : IsFirst P i) (hj : IsFirst P j) : i = j :=
  le_antisymm (hi.2 j hj.1) (hj.2 i hi.1)

/-- Where there is a place there is a first. -/
theorem exists_first {n : ℕ} {P : Fin n → Prop} (h : ∃ i, P i) : ∃ i, IsFirst P i := by
  classical
  obtain ⟨i, hi⟩ := h
  have hne : (Finset.univ.filter P).Nonempty := ⟨i, by simp [hi]⟩
  exact ⟨(Finset.univ.filter P).min' hne, by simpa using Finset.min'_mem _ hne, fun j hj => Finset.min'_le _ _ (by simp [hj])⟩

/-- `i` is the first place at which `f` is greatest. -/
def IsTop {n : ℕ} (f : Fin n → ℝ) (i : Fin n) : Prop := IsFirst (fun i => ∀ j, f j ≤ f i) i

/-- `i` is the first place at which `f` is least. -/
def IsLeast {n : ℕ} (f : Fin n → ℝ) (i : Fin n) : Prop := IsFirst (fun i => ∀ j, f i ≤ f j) i

/-- There is a first greatest. -/
theorem exists_top {n : ℕ} [NeZero n] (f : Fin n → ℝ) : ∃ i, IsTop f i :=
  exists_first (by obtain ⟨i, hi⟩ := Finite.exists_max f; exact ⟨i, hi⟩)

/-- There is a first least. -/
theorem exists_least {n : ℕ} [NeZero n] (f : Fin n → ℝ) : ∃ i, IsLeast f i :=
  exists_first (by obtain ⟨i, hi⟩ := Finite.exists_min f; exact ⟨i, hi⟩)

/-- The first place at which `f` is greatest. -/
def top {n : ℕ} [NeZero n] (f : Fin n → ℝ) : Fin n := (exists_top f).choose
/-- `top` is the first greatest. -/
theorem top_spec {n : ℕ} [NeZero n] (f : Fin n → ℝ) : IsTop f (top f) := (exists_top f).choose_spec

/-- The first place at which `f` is least. -/
def least {n : ℕ} [NeZero n] (f : Fin n → ℝ) : Fin n := (exists_least f).choose
/-- `least` is the first least. -/
theorem least_spec {n : ℕ} [NeZero n] (f : Fin n → ℝ) : IsLeast f (least f) := (exists_least f).choose_spec

/-! ## The plane rotations -/

/-- The tangent of the rotation that clears the entry `apq`. -/
def tan (app aqq apq : ℝ) : ℝ :=
  if apq = 0 then 0
  else (if (aqq - app) / (2 * apq) < 0 then -1 else 1) /
    (|(aqq - app) / (2 * apq)| + √(1 + (aqq - app) / (2 * apq) * ((aqq - app) / (2 * apq))))

/-- The cosine and the sine of an angle's tangent. -/
def cos (t : ℝ) : ℝ := 1 / √(1 + t * t)
/-- The sine from the tangent. -/
def sin (t : ℝ) : ℝ := t * cos t

/-- The squares of cosine and sine make one. -/
theorem cos_sin (t : ℝ) : cos t * cos t + sin t * sin t = 1 := by
  have h : 0 < 1 + t * t := by nlinarith [mul_self_nonneg t]
  have hs : √(1 + t * t) * √(1 + t * t) = 1 + t * t := Real.mul_self_sqrt h.le
  have hn : √(1 + t * t) ≠ 0 := (Real.sqrt_pos.mpr h).ne'
  have e : cos t * cos t + sin t * sin t = (1 + t * t) / (√(1 + t * t) * √(1 + t * t)) := by unfold sin cos; field_simp
  rw [e, hs, div_self h.ne']

/-- Rows `p` and `q` turned. -/
def rows (p q : Fin 4) (c s : ℝ) (A : M4) : M4 := fun i j =>
  if i = q then s * A p j + c * A q j else if i = p then c * A p j - s * A q j else A i j

/-- Columns `p` and `q` turned. -/
def cols (p q : Fin 4) (c s : ℝ) (A : M4) : M4 := fun i j =>
  if j = q then s * A i p + c * A i q else if j = p then c * A i p - s * A i q else A i j

/-- The tangent for the plane of `p` and `q`. -/
def tanOf (p q : Fin 4) (A : M4) : ℝ := tan (A p p) (A q q) (A p q)

/-- One rotation: the rows and the columns of `A`, the columns of `V`. -/
def rot (p q : Fin 4) (AV : M4 × M4) : M4 × M4 :=
  (cols p q (cos (tanOf p q AV.1)) (sin (tanOf p q AV.1)) (rows p q (cos (tanOf p q AV.1)) (sin (tanOf p q AV.1)) AV.1),
    cols p q (cos (tanOf p q AV.1)) (sin (tanOf p q AV.1)) AV.2)

/-- The six planes in order. -/
def sweep (AV : M4 × M4) : M4 × M4 := rot 2 3 (rot 1 3 (rot 1 2 (rot 0 3 (rot 0 2 (rot 0 1 AV)))))

/-- The unit matrix. -/
def eye : M4 := fun i j => if i = j then 1 else 0

/-- The columns of `V` have length one and are at right angles. -/
def Ortho (V : M4) : Prop := ∀ j k, ∑ i, V i j * V i k = if j = k then 1 else 0

/-- The identity is orthogonal. -/
theorem ortho_eye : Ortho eye := by
  intro j k
  fin_cases j <;> fin_cases k <;> simp [eye]

/-- Turning two columns keeps a matrix orthogonal. -/
theorem Ortho.cols {p q : Fin 4} (hpq : p ≠ q) {c s : ℝ} (hcs : c * c + s * s = 1) {V : M4} (h : Ortho V) : Ortho (cols p q c s V) := by
  have key : ∀ a b a' b' : ℝ, ∀ i j k l : Fin 4, ∑ n, (a * V n i + b * V n j) * (a' * V n k + b' * V n l)
      = a * a' * (if i = k then 1 else 0) + a * b' * (if i = l then 1 else 0) + b * a' * (if j = k then 1 else 0)
        + b * b' * (if j = l then 1 else 0) := by
    intro a b a' b' i j k l
    rw [← h i k, ← h i l, ← h j k, ← h j l]
    simp only [Finset.mul_sum, ← Finset.sum_add_distrib]
    exact Finset.sum_congr rfl fun n _ => by ring
  have form : ∀ j, ∃ a b : ℝ, ∀ n, Model.cols p q c s V n j = a * V n (if j = q ∨ j = p then p else j) + b * V n q ∧
      (a, b) = if j = q then (s, c) else if j = p then (c, -s) else (1, 0) := by
    intro j
    by_cases hq : j = q
    · exact ⟨s, c, fun n => by simp [Model.cols, hq]⟩
    · by_cases hp : j = p
      · exact ⟨c, -s, fun n => by subst hp; simp [Model.cols, hq]; ring⟩
      · exact ⟨1, 0, fun n => by simp [Model.cols, hq, hp]⟩
  intro j k
  obtain ⟨a, b, hab⟩ := form j
  obtain ⟨a', b', hab'⟩ := form k
  rw [Finset.sum_congr rfl fun n _ => by rw [(hab n).1, (hab' n).1], key]
  have e := (hab 0).2
  have e' := (hab' 0).2
  by_cases hjq : j = q <;> by_cases hkq : k = q <;> by_cases hjp : j = p <;> by_cases hkp : k = p <;>
    simp_all [Prod.ext_iff, Ne.symm] <;> nlinarith

/-- So does a rotation step, -/
theorem ortho_rot {p q : Fin 4} (hpq : p ≠ q) {AV : M4 × M4} (h : Ortho AV.2) : Ortho (rot p q AV).2 :=
  h.cols hpq (cos_sin _)

/-- a sweep, -/
theorem ortho_sweep {AV : M4 × M4} (h : Ortho AV.2) : Ortho (sweep AV).2 :=
  ortho_rot (by decide) (ortho_rot (by decide) (ortho_rot (by decide) (ortho_rot (by decide) (ortho_rot (by decide) (ortho_rot (by decide) h)))))

/-- and any number of sweeps. -/
theorem ortho_sweeps (n : ℕ) {AV : M4 × M4} (h : Ortho AV.2) : Ortho (sweep^[n] AV).2 := by
  induction n with
  | zero => exact h
  | succ n ih => rw [Function.iterate_succ_apply']; exact ortho_sweep ih

/-! ## The alignment -/

/-- The mean of a cloud, and the products of two centred clouds summed over the points. -/
def mean (x : Cloud) (i : Fin 3) : ℝ := (∑ n, x i n) / 4096
/-- The cross-covariance of two clouds, a sum over the points. -/
def corr (x y : Cloud) : M3 := fun i j => ∑ n, (x i n - mean x i) * (y j n - mean y j)

/-- Horn's symmetric matrix. -/
def horn (H : M3) : M4 :=
  ![![H 0 0 + H 1 1 + H 2 2, H 1 2 - H 2 1, H 2 0 - H 0 2, H 0 1 - H 1 0],
    ![H 1 2 - H 2 1, H 0 0 - H 1 1 - H 2 2, H 0 1 + H 1 0, H 2 0 + H 0 2],
    ![H 2 0 - H 0 2, H 0 1 + H 1 0, H 1 1 - H 0 0 - H 2 2, H 1 2 + H 2 1],
    ![H 0 1 - H 1 0, H 2 0 + H 0 2, H 1 2 + H 2 1, H 2 2 - H 0 0 - H 1 1]]

/-- The column of `V` under the first greatest diagonal entry of `A`. -/
def quatOf (AV : M4 × M4) : Quat := fun i => AV.2 i (top fun j => AV.1 j j)

/-- The quaternion of the alignment of `x` to `y`. -/
def quat (x y : Cloud) : Quat := quatOf (sweep^[6] (horn (corr x y), eye))

/-- The quaternion of an alignment has length one. -/
theorem quat_unit (x y : Cloud) : ∑ i, quat x y i * quat x y i = 1 := by
  have h := ortho_sweeps 6 (AV := (horn (corr x y), eye)) ortho_eye
  have := h (top fun j => (sweep^[6] (horn (corr x y), eye)).1 j j) (top fun j => (sweep^[6] (horn (corr x y), eye)).1 j j)
  rw [if_pos rfl] at this
  exact this

/-- The rotation of a quaternion. -/
def R (q : Quat) : M3 :=
  ![![1 - 2 * (q 2 * q 2 + q 3 * q 3), 2 * (q 1 * q 2 - q 0 * q 3), 2 * (q 1 * q 3 + q 0 * q 2)],
    ![2 * (q 1 * q 2 + q 0 * q 3), 1 - 2 * (q 1 * q 1 + q 3 * q 3), 2 * (q 2 * q 3 - q 0 * q 1)],
    ![2 * (q 1 * q 3 - q 0 * q 2), 2 * (q 2 * q 3 + q 0 * q 1), 1 - 2 * (q 1 * q 1 + q 2 * q 2)]]

/-- The shift that goes with it. -/
def shift (q : Quat) (x y : Cloud) (i : Fin 3) : ℝ := mean y i - (R q i 0 * mean x 0 + R q i 1 * mean x 1 + R q i 2 * mean x 2)

/-- A cloud turned and shifted. -/
def move (q : Quat) (t : Fin 3 → ℝ) (x : Cloud) : Cloud := fun i n => R q i 0 * x 0 n + R q i 1 * x 1 n + R q i 2 * x 2 n + t i

/-- The squared distance of a point of `x` and a point of `y`, as both programs write it. -/
def dist (x y : Cloud) (n m : Fin 4096) : ℝ :=
  max (((x 0 n * x 0 n + x 1 n * x 1 n + x 2 n * x 2 n) + (y 0 m * y 0 m + y 1 m * y 1 m + y 2 m * y 2 m))
    - 2 * (x 0 n * y 0 m + x 1 n * y 1 m + x 2 n * y 2 m)) 0

/-- Of each point of `x` the nearest of `y`, the first if there are several. -/
def nearest (x y : Cloud) : Cloud := fun i n => y i (least (dist x y n))

/-- One iteration, and all ten. -/
def step (y x : Cloud) : Cloud := move (quat x (nearest x y)) (shift (quat x (nearest x y)) x (nearest x y)) x
/-- The cloud after ten steps. -/
def icp (y x : Cloud) : Cloud := (step y)^[10] x

/-- The quaternion with the sign that makes its first greatest entry positive, and the pose: the shift, then the
quaternion with the real part last. -/
def signed (q : Quat) : Quat := fun i => (if q (top fun j => |q j|) < 0 then -1 else 1) * q i
/-- The pose: three of the shift, then the quaternion's last three entries and its first, with the sign that makes the greatest entry positive. -/
def pose (x y : Cloud) : Fin 7 → ℝ :=
  let q := quat x (icp y x)
  ![shift q x (icp y x) 0, shift q x (icp y x) 1, shift q x (icp y x) 2, signed q 1, signed q 2, signed q 3, signed q 0]

end Cert.Proof.Model

end
-- ==== Proof.Reals.lean ====
/-
  Extended reals that are reals: sums, quotients, roots, comparisons and constants of them.
-/
module

public import proofs.«01_k».proof.Proof.Model
public import Idealize.ShloMosaic.Lib.Pointwise
public import Idealize.ShloMosaic.Lib.IdealHost

@[expose] public section

noncomputable section

namespace Cert.Proof.Reals

open Idealize.ShloMosaic

/-- The quotient of two reals. -/
theorem div_real (a : ℝ) {b : ℝ} (h : b ≠ 0) : Ideal.div (a : EReal) (b : EReal) = ((a / b : ℝ) : EReal) := by
  rw [Ideal.div_coe h, ← EReal.coe_mul, mul_one_div]

/-- The root of a real. -/
theorem sqrt_real {a : ℝ} (h : 0 ≤ a) : Ideal.sqrt (a : EReal) = ((√a : ℝ) : EReal) := by
  rw [Ideal.sqrt_coe, if_neg (not_lt.mpr h)]

/-- The greater of two reals. -/
theorem max_real (a b : ℝ) : max (a : EReal) (b : EReal) = ((max a b : ℝ) : EReal) := (EReal.coe_strictMono.monotone.map_max).symm

/-- The absolute value of a real. -/
theorem abs_real (a : ℝ) : FloatOps.absf (F := Ideal) (φ := .f32) (a : EReal) = ((|a| : ℝ) : EReal) := by
  show max (a : EReal) (-(a : EReal)) = _
  rw [← EReal.coe_neg, max_real, abs_eq_max_neg]

/-- A sum of reals. -/
theorem sum_real {n : ℕ} (f : Fin n → ℝ) : ∑ i, ((f i : ℝ) : EReal) = ((∑ i, f i : ℝ) : EReal) := by
  induction n with
  | zero => simp
  | succ n ih => rw [Fin.sum_univ_succ, Fin.sum_univ_succ, ih, EReal.coe_add]

/-- The word of 2. -/
theorem two : Ideal.ofBits .f32 0x40000000#32 = ((2 : ℝ) : EReal) := by
  simp [Ideal.ofBits, Ideal.ieee, -EReal.coe_mul]; norm_num
/-- The word of -1. -/
theorem neg_one : Ideal.ofBits .f32 0xBF800000#32 = ((-1 : ℝ) : EReal) := by
  simp [Ideal.ofBits, Ideal.ieee, -EReal.coe_mul, -EReal.coe_neg]; norm_num
/-- The word of 4096. -/
theorem many : Ideal.ofBits .f32 0x45800000#32 = ((4096 : ℝ) : EReal) := by
  simp [Ideal.ofBits, Ideal.ieee, -EReal.coe_mul]; norm_num
/-- The word of 1/4096. -/
theorem inv_many : Ideal.ofBits .f32 0x39800000#32 = ((1 / 4096 : ℝ) : EReal) := by
  simp [Ideal.ofBits, Ideal.ieee, -EReal.coe_mul]; norm_num
/-- The word of 9. -/
theorem nine : Ideal.ofBits .f32 0x41100000#32 = ((9 : ℝ) : EReal) := by
  simp [Ideal.ofBits, Ideal.ieee, -EReal.coe_mul]; norm_num
/-- The word of infinity. -/
theorem inf : Ideal.ofBits .f32 0x7F800000#32 = ⊤ := by
  simp [Ideal.ofBits, Ideal.ieee]
/-- The word of minus infinity. -/
theorem neg_inf : Ideal.ofBits .f32 0xFF800000#32 = ⊥ := by
  simp [Ideal.ofBits, Ideal.ieee]

/-- The greatest of finitely many reals, when it is at `i`. -/
theorem fold_max {n : ℕ} {f : Fin n → ℝ} {i : Fin n} (h : ∀ j, f j ≤ f i) :
    (Finset.univ : Finset (Fin n)).fold max (⊥ : EReal) (fun k => ((f k : ℝ) : EReal)) = ((f i : ℝ) : EReal) := by
  refine le_antisymm (Finset.fold_max_le _ |>.mpr ⟨bot_le, fun k _ => EReal.coe_le_coe_iff.mpr (h k)⟩) ?_
  exact Finset.le_fold_max _ |>.mpr (.inr ⟨i, Finset.mem_univ _, le_rfl⟩)

/-- The least of finitely many, when it is at `i`. -/
theorem fold_min {n : ℕ} {f : Fin n → EReal} {i : Fin n} (h : ∀ j, f i ≤ f j) :
    (Finset.univ : Finset (Fin n)).fold min (⊤ : EReal) f = f i := by
  refine le_antisymm (Finset.fold_min_le _ |>.mpr (.inr ⟨i, Finset.mem_univ _, le_rfl⟩)) ?_
  exact Finset.le_fold_min _ |>.mpr ⟨le_top, fun k _ => h k⟩

end Cert.Proof.Reals

end
-- ==== Proof.Finite.lean ====
/-
  The precondition: every coordinate of both arguments is a real number.
-/
module

public import proofs.«01_k».proof.Pre_finite
public import proofs.«01_k».proof.Proof.Reals
public import Idealize.ShloMosaic.Lib.ReduceAll
public import Idealize.ShloMosaic.Lib.Tactic

@[expose] public section

noncomputable section

namespace Cert.Proof.Finite

open Idealize.ShloMosaic Cert.Pre_finite Cert.Proof.Reals

/-- The shape relations the predicate takes. -/
theorem facts : Cert.Pre_finite.Facts where
  bcast_S_S2x4096x3 := by decide
  reducesTo_S2x4096x3_S_d0_1_2 := by decide
  h_S_ := by decide

/-- An extended real whose absolute value is below `⊤` is a real. -/
theorem real_of_lt {x : Ideal .f32} (h : FloatOps.absf (F := Ideal) (φ := .f32) x < (⊤ : EReal)) : ∃ a : ℝ, x = (a : EReal) := by
  have e : FloatOps.absf (F := Ideal) (φ := .f32) x = max (x : EReal) (-(x : EReal)) := rfl
  rw [e] at h
  refine ⟨EReal.toReal x, (EReal.coe_toReal ?_ ?_).symm⟩
  · rintro rfl
    exact absurd h (by simp)
  · rintro rfl
    exact absurd h (by simp)

/-- One argument's half of the predicate: its entries are reals. -/
theorem entries [Facts] (X : FVec Ideal S2x4096x3 .f32) (o : S_.Idx)
    (h : Host.reduce IntOp.andi (cmpf .olt (Host.absf X) (broadcastInDim S2x4096x3 ![] Facts.bcast_S_S2x4096x3 (constant (F := Ideal) S_ .f32 0x7F800000#32)))
      (constantI S_ 1 1#1) Facts.reducesTo_S2x4096x3_S_d0_1_2 Facts.h_S_ o = 1#1) (j : S2x4096x3.Idx) : ∃ a : ℝ, X j = (a : EReal) := by
  refine real_of_lt ?_
  rw [← inf]
  exact (Ideal.cmp_olt_eq_one _ _).1 (Host.reduce_andi_all _ _ _ _ _ h j)

/-- Arguments the predicate holds of have only reals. -/
theorem reals [Facts] {X Y : FVec Ideal S2x4096x3 .f32} (h : Cert.Pre_finite.fn (F := Ideal) X Y = fun _ => 1#1) :
    (∀ j, ∃ a : ℝ, X j = (a : EReal)) ∧ ∀ j, ∃ a : ℝ, Y j = (a : EReal) := by
  have h := IntOp.andi_eq_one.1 (congrFun h (Shape.Idx.first Facts.h_S_))
  exact ⟨entries X _ h.1, entries Y _ h.2⟩

end Cert.Proof.Finite

end
-- ==== Proof.KernelRotValue.lean ====
/-
  The kernel's plane rotations of arrays of reals are the real ones.
-/
module

public import proofs.«01_k».proof.Proof.KernelAlign
public import proofs.«01_k».proof.Proof.Reals

@[expose] public section

noncomputable section

namespace Cert.Proof.KernelIdeal

open Cert.KernelIdeal Cert.KernelIdeal.Gen Cert.Proof.Reals
open Idealize.ShloMosaic Idealize.ShloMosaic.TcCoe Idealize.ShloMosaic.Tactic

set_option maxRecDepth 16384

/-- The one entry of `x` is the real `r`; the entries of `A` are those of the real matrix `M`. -/
def Is1 (x : FVec Ideal S1x1 .f32) (r : ℝ) : Prop := x (ix2 0 0) = (r : EReal)
/-- The array is the 4x4 matrix `M`. -/
def Is4 (A : FVec Ideal S4x4 .f32) (M : Model.M4) : Prop := ∀ i j, A (ix2 i j) = ((M i j : ℝ) : EReal)

/-- The tangent of a rotation, from the three entries. -/
theorem kTan_real {a b d : FVec Ideal S1x1 .f32} {ra rb rd : ℝ} (ha : Is1 a ra) (hb : Is1 b rb) (hd : Is1 d rd) :
    Is1 (kTan a b d) (Model.tan ra rb rd) := by
  unfold Is1 at *
  pointwise [kTan, kTau]
  rw [ha, hb, hd]
  unfold Model.tan
  by_cases h : rd = 0
  · simp [h]
  · have h0 : ((rd : ℝ) : EReal) ≠ 0 := by exact_mod_cast h
    have h2 : (2 * rd) ≠ 0 := mul_ne_zero two_ne_zero h
    simp only [if_neg h, if_neg h0, two, ← EReal.coe_mul, ← EReal.coe_sub, div_real _ h2]
    generalize (rb - ra) / (2 * rd) = τ
    have hp : 0 ≤ 1 + τ * τ := by nlinarith [mul_self_nonneg τ]
    have hs : 1 ≤ √(1 + τ * τ) := Real.one_le_sqrt.mpr (by nlinarith [mul_self_nonneg τ])
    have hn : |τ| + √(1 + τ * τ) ≠ 0 := by have := abs_nonneg τ; positivity
    simp only [abs_real, neg_one, ← EReal.coe_one, ← EReal.coe_zero, ← EReal.coe_add, sqrt_real hp, EReal.coe_lt_coe_iff, EReal.coe_eq_coe_iff, ← apply_ite (Real.toEReal),
      div_real _ hn]
    congr 1
    by_cases ht : τ = 0
    · simp [ht]
    · rw [if_neg ht]

/-- The cosine from the tangent. -/
theorem kCos_real {t : FVec Ideal S1x1 .f32} {r : ℝ} (h : Is1 t r) : Is1 (kCos t) (Model.cos r) := by
  unfold Is1 at *
  have hp : 0 ≤ 1 + r * r := by nlinarith [mul_self_nonneg r]
  have hs : √(1 + r * r) ≠ 0 := (Real.sqrt_pos.mpr (by nlinarith [mul_self_nonneg r])).ne'
  pointwise [kCos]
  rw [h, ← EReal.coe_one, ← EReal.coe_mul, ← EReal.coe_add, sqrt_real hp, div_real _ hs]
  rfl

/-- The sine from the tangent. -/
theorem kSin_real {t : FVec Ideal S1x1 .f32} {r : ℝ} (h : Is1 t r) : Is1 (kSin t) (Model.sin r) := by
  have hc := kCos_real h
  unfold Is1 at *
  unfold kSin
  pointwise
  rw [h, hc, ← EReal.coe_mul]
  rfl

/-- Numbers below four, compared as words. -/
theorem sel4 {α : Type} (i p : Fin 4) (a b : α) :
    Scalar.select (IntOp.cmpi CmpIPredicate.eq (BitVec.ofNat 32 ↑i) (BitVec.ofNat 32 ↑p)) a b = if i = p then a else b := by
  fin_cases i <;> fin_cases p <;> rfl

variable {p q : Fin 4} (h : Pair p q)

/-- The tangent for the pair's entries of a matrix. -/
theorem kTanOf_real {A : FVec Ideal S4x4 .f32} {M : Model.M4} (hA : Is4 A M) : Is1 (kTanOf p q h A) (Model.tanOf p q M) := by
  refine kTan_real ?_ ?_ ?_ <;> · unfold Is1; pointwise; exact hA _ _

/-- Two rows turned. -/
theorem kRows_real {c s : FVec Ideal S1x1 .f32} {A : FVec Ideal S4x4 .f32} {rc rs : ℝ} {M : Model.M4} (hc : Is1 c rc) (hs : Is1 s rs)
    (hA : Is4 A M) : Is4 (kRows p q h ri4 c s A) (Model.rows p q rc rs M) := by
  intro i j
  unfold Is1 at *
  pointwise [kRows]
  simp only [hc, hs, hA _ _, sel4, ← EReal.coe_mul, ← EReal.coe_add, ← EReal.coe_sub, ← apply_ite (Real.toEReal)]
  rfl

/-- Two columns turned. -/
theorem kCols_real {c s : FVec Ideal S1x1 .f32} {A : FVec Ideal S4x4 .f32} {rc rs : ℝ} {M : Model.M4} (hc : Is1 c rc) (hs : Is1 s rs)
    (hA : Is4 A M) : Is4 (kCols p q h ci4 c s A) (Model.cols p q rc rs M) := by
  intro i j
  unfold Is1 at *
  pointwise [kCols]
  simp only [hc, hs, hA _ _, sel4, ← EReal.coe_mul, ← EReal.coe_add, ← EReal.coe_sub, ← apply_ite (Real.toEReal)]
  rfl

/-- One rotation, one sweep, several sweeps. -/
theorem kRot_real {AV : FVec Ideal S4x4 .f32 × FVec Ideal S4x4 .f32} {MV : Model.M4 × Model.M4} (hA : Is4 AV.1 MV.1) (hV : Is4 AV.2 MV.2) :
    Is4 (kRot p q h ri4 ci4 AV).1 (Model.rot p q MV).1 ∧ Is4 (kRot p q h ri4 ci4 AV).2 (Model.rot p q MV).2 := by
  have ht := kTanOf_real h hA
  exact ⟨kCols_real h (kCos_real ht) (kSin_real ht) (kRows_real h (kCos_real ht) (kSin_real ht) hA), kCols_real h (kCos_real ht) (kSin_real ht) hV⟩

/-- A sweep. -/
theorem kSweep_real {AV : FVec Ideal S4x4 .f32 × FVec Ideal S4x4 .f32} {MV : Model.M4 × Model.M4} (hAV : Is4 AV.1 MV.1 ∧ Is4 AV.2 MV.2) :
    Is4 (kSweep ri4 ci4 AV).1 (Model.sweep MV).1 ∧ Is4 (kSweep ri4 ci4 AV).2 (Model.sweep MV).2 := by
  have h1 := kRot_real (p := 0) (q := 1) pair01 hAV.1 hAV.2
  have h2 := kRot_real (p := 0) (q := 2) pair02 h1.1 h1.2
  have h3 := kRot_real (p := 0) (q := 3) pair03 h2.1 h2.2
  have h4 := kRot_real (p := 1) (q := 2) pair12 h3.1 h3.2
  have h5 := kRot_real (p := 1) (q := 3) pair13 h4.1 h4.2
  exact kRot_real (p := 2) (q := 3) pair23 h5.1 h5.2

/-- Any number of sweeps. -/
theorem kSweeps_real (n : ℕ) {AV : FVec Ideal S4x4 .f32 × FVec Ideal S4x4 .f32} {MV : Model.M4 × Model.M4}
    (hAV : Is4 AV.1 MV.1 ∧ Is4 AV.2 MV.2) :
    Is4 ((kSweep ri4 ci4)^[n] AV).1 (Model.sweep^[n] MV).1 ∧ Is4 ((kSweep ri4 ci4)^[n] AV).2 (Model.sweep^[n] MV).2 := by
  induction n with
  | zero => exact hAV
  | succ n ih => rw [Function.iterate_succ_apply', Function.iterate_succ_apply']; exact kSweep_real ih

end Cert.Proof.KernelIdeal

end
-- ==== Proof.Words.lean ====
/-
  Numbers as words of thirty-two bits: their comparison, the least of several, and sums that pick one term.
-/
module

public import proofs.«01_k».proof.Proof.Reals

@[expose] public section

noncomputable section

namespace Cert.Proof.Words

open Idealize.ShloMosaic

/-- Two numbers compared as words. -/
theorem cmp_eq {n : ℕ} (hn : n ≤ 2 ^ 31) (i j : Fin n) :
    IntOp.cmpi CmpIPredicate.eq (BitVec.ofNat 32 i.val) (BitVec.ofNat 32 j.val) = if i = j then 1#1 else 0#1 := by
  have hi := i.isLt
  have hj := j.isLt
  by_cases h : i = j
  · subst h; simp [IntOp.cmpi]
  · have : BitVec.ofNat 32 i.val ≠ BitVec.ofNat 32 j.val := fun e => h (Fin.ext (by
      have := congrArg BitVec.toNat e
      simp only [BitVec.toNat_ofNat] at this
      rwa [Nat.mod_eq_of_lt (by omega), Nat.mod_eq_of_lt (by omega)] at this))
    rw [if_neg h]
    show BitVec.ofBool (BitVec.ofNat 32 i.val == BitVec.ofNat 32 j.val) = 0#1
    rw [beq_eq_false_iff_ne.mpr this]
    rfl

/-- A choice by a condition's word. -/
theorem select_if {α : Type} (P : Prop) [Decidable P] (a b : α) : Scalar.select (if P then 1#1 else 0#1) a b = if P then a else b := by
  by_cases h : P <;> simp [h, Scalar.select]

/-- The words' `and`. -/
theorem and_if (P Q : Prop) [Decidable P] [Decidable Q] :
    IntOp.andi (if P then 1#1 else 0#1) (if Q then 1#1 else 0#1) = if P ∧ Q then 1#1 else 0#1 := by
  by_cases h : P <;> by_cases h' : Q <;> simp [h, h', IntOp.andi]

/-- The words' `or`. -/
theorem or_if (P Q : Prop) [Decidable P] [Decidable Q] :
    IntOp.ori (if P then 1#1 else 0#1) (if Q then 1#1 else 0#1) = if P ∨ Q then 1#1 else 0#1 := by
  by_cases h : P <;> by_cases h' : Q <;> simp [h, h', IntOp.ori]

/-- A select on the equality of two numbers. -/
theorem select_eq {n : ℕ} (hn : n ≤ 2 ^ 31) {α : Type} (i j : Fin n) (a b : α) :
    Scalar.select (IntOp.cmpi CmpIPredicate.eq (BitVec.ofNat 32 i.val) (BitVec.ofNat 32 j.val)) a b = if i = j then a else b := by
  rw [cmp_eq hn, select_if]

/-- The sum that picks the term `i`. -/
theorem pick {n : ℕ} (hn : n ≤ 2 ^ 31) (i : Fin n) (f : Fin n → EReal) :
    ∑ x : Fin n, Scalar.select (IntOp.cmpi CmpIPredicate.eq (BitVec.ofNat 32 x.val) (BitVec.ofNat 32 i.val)) (f x) 0 = f i := by
  simp only [select_eq hn, Finset.sum_ite_eq', Finset.mem_univ, if_true]

/-- A small number's word, read signed. -/
theorem toInt_ofNat {k : ℕ} (h : k < 2 ^ 31) : (BitVec.ofNat 32 k).toInt = k := by
  rw [BitVec.toInt_eq_toNat_of_lt] <;> simp only [BitVec.toNat_ofNat] <;> rw [Nat.mod_eq_of_lt (by omega)]
  omega

/-- The signed lesser of two words. -/
theorem minsi_toInt (a b : BitVec 32) : (IntOp.minsi a b).toInt = min a.toInt b.toInt := by
  unfold IntOp.minsi
  rw [BitVec.slt_eq_decide]
  by_cases h : a.toInt < b.toInt
  · simp only [h, decide_true, if_true]; omega
  · simp only [h, decide_false]; rw [if_neg (by decide)]; omega

/-- The least of the words of the places with `P` is the first such place's. -/
theorem fold_minsi {n : ℕ} (hn : n < 2 ^ 31) {P : Fin n → Prop} [DecidablePred P] {i : Fin n} (h : Model.IsFirst P i) :
    Finset.fold IntOp.minsi (2147483647#32) (fun x : Fin n => if P x then BitVec.ofNat 32 x.val else BitVec.ofNat 32 n) Finset.univ
      = BitVec.ofNat 32 i.val := by
  have key : ∀ s : Finset (Fin n), (Finset.fold IntOp.minsi (2147483647#32) (fun x : Fin n => if P x then BitVec.ofNat 32 x.val else BitVec.ofNat 32 n) s).toInt
      = Finset.fold min (2147483647 : ℤ) (fun x : Fin n => if P x then (x.val : ℤ) else n) s := by
    intro s
    induction s using Finset.induction_on with
    | empty => rfl
    | insert a s ha ih =>
      rw [Finset.fold_insert ha, Finset.fold_insert ha, minsi_toInt, ih]
      congr 1
      have := a.isLt
      split
      · exact toInt_ofNat (by omega)
      · exact toInt_ofNat hn
  refine BitVec.eq_of_toInt_eq ((key _).trans ?_)
  have hi := i.isLt
  rw [toInt_ofNat (by omega)]
  refine le_antisymm (Finset.fold_min_le _ |>.mpr (.inr ⟨i, Finset.mem_univ _, by simp [h.1]⟩)) ?_
  refine Finset.le_fold_min _ |>.mpr ⟨by omega, fun k _ => ?_⟩
  split
  · rename_i hk; exact_mod_cast h.2 k hk
  · omega

/-- The float of a number's word is the number. -/
theorem sitofp_ofNat {k : ℕ} (h : k < 2 ^ 31) : FloatOps.sitofp (F := Ideal) FTy.f32 (BitVec.ofNat 32 k) = (((k : ℕ) : ℝ) : EReal) := by
  show (((BitVec.ofNat 32 k).toInt : ℝ) : EReal) = _
  rw [toInt_ofNat h]
  norm_cast

/-- The least of the numbers of the places with `P`, as floats, is the first such place's. -/
theorem fold_first {n : ℕ} {P : Fin n → Prop} [DecidablePred P] {i : Fin n} (h : Model.IsFirst P i) {c : EReal} (hc : ((n : ℝ) : EReal) ≤ c)
    (g : Fin n → EReal) (hg : ∀ x, g x = (((x.val : ℕ) : ℝ) : EReal)) :
    Finset.fold min (⊤ : EReal) (fun x : Fin n => if P x then g x else c) Finset.univ = (((i.val : ℕ) : ℝ) : EReal) := by
  refine le_antisymm (Finset.fold_min_le _ |>.mpr (.inr ⟨i, Finset.mem_univ _, by simp [h.1, hg]⟩)) ?_
  refine Finset.le_fold_min _ |>.mpr ⟨le_top, fun k _ => ?_⟩
  split
  · rename_i hk; rw [hg]; exact_mod_cast h.2 k hk
  · exact le_trans (by exact_mod_cast i.isLt.le) hc

/-- The first place whose value is the greatest of all. -/
theorem first_max {n : ℕ} {f : Fin n → ℝ} {i : Fin n} (h : Model.IsTop f i) :
    Model.IsFirst (fun x => ((f x : ℝ) : EReal) = Finset.fold max (⊥ : EReal) (fun k => ((f k : ℝ) : EReal)) Finset.univ) i := by
  rw [Reals.fold_max h.1]
  exact ⟨rfl, fun j hj => h.2 j fun k => (h.1 k).trans (EReal.coe_eq_coe_iff.mp hj).ge⟩

/-- The first place whose value is the least of all. -/
theorem first_min {n : ℕ} {f : Fin n → ℝ} {i : Fin n} (h : Model.IsLeast f i) :
    Model.IsFirst (fun x => ((f x : ℝ) : EReal) = Finset.fold min (⊤ : EReal) (fun k => ((f k : ℝ) : EReal)) Finset.univ) i := by
  rw [Reals.fold_min (f := fun k => ((f k : ℝ) : EReal)) (i := i) fun j => EReal.coe_le_coe_iff.mpr (h.1 j)]
  exact ⟨rfl, fun j hj => h.2 j fun k => (EReal.coe_eq_coe_iff.mp hj).le.trans (h.1 k)⟩

/-- The sum that picks the term whose number, as a float, is `i`. -/
theorem pick_float {n : ℕ} (i : Fin n) (f : Fin n → EReal) (g : Fin n → EReal) (hg : ∀ x, g x = (((x.val : ℕ) : ℝ) : EReal)) :
    (∑ x : Fin n, if g x = (((i.val : ℕ) : ℝ) : EReal) then f x else 0) = f i := by
  have e : ∀ x : Fin n, (g x = (((i.val : ℕ) : ℝ) : EReal)) ↔ x = i := fun x => by
    rw [hg, EReal.coe_eq_coe_iff, Nat.cast_inj, Fin.ext_iff]
  simp only [e, Finset.sum_ite_eq', Finset.mem_univ, if_true]

end Cert.Proof.Words

end
-- ==== Proof.KernelAlignValue.lean ====
/-
  The kernel's alignment of clouds of reals is the real one.
-/
module

public import proofs.«01_k».proof.Proof.KernelRotValue
public import proofs.«01_k».proof.Proof.KernelNearest
public import proofs.«01_k».proof.Proof.Words

@[expose] public section

noncomputable section

namespace Cert.Proof.KernelIdeal

open Cert.KernelIdeal Cert.KernelIdeal.Gen Cert.Proof.Reals Cert.Proof.Words
open Idealize.ShloMosaic Idealize.ShloMosaic.TcCoe Idealize.ShloMosaic.Tactic

set_option maxRecDepth 16384

/-- The entries of a row, of a cloud's array, of a three by three array, and of a column of four, are reals. -/
def IsRow (x : FVec Ideal S1x4096 .f32) (r : Fin 4096 → ℝ) : Prop := ∀ n, x (ix2 0 n) = ((r n : ℝ) : EReal)
/-- The array is the cloud `x`. -/
def IsCloud (X : FVec Ideal S3x4096 .f32) (x : Model.Cloud) : Prop := ∀ i n, X (ix2 i n) = ((x i n : ℝ) : EReal)
/-- The array is the 3x3 matrix `M`. -/
def Is3 (A : FVec Ideal S3x3 .f32) (M : Model.M3) : Prop := ∀ i j, A (ix2 i j) = ((M i j : ℝ) : EReal)
/-- The column is the quaternion `r`. -/
def IsQ (q : FVec Ideal S4x1 .f32) (r : Model.Quat) : Prop := ∀ i, q (ix2 i 0) = ((r i : ℝ) : EReal)

/-- The mean of a row: the kernel multiplies the sum by 1/4096. -/
theorem kMean_real {a : FVec Ideal S1x4096 .f32} {x : Model.Cloud} {i : Fin 3} (h : IsRow a (x i)) : Is1 (kMean a) (Model.mean x i) := by
  unfold Is1
  pointwise [kMean]
  simp only [h _, sum_real, inv_many, ← EReal.coe_mul, mul_one_div]
  rfl

/-- A row less its mean. -/
theorem kCent_real {a : FVec Ideal S1x4096 .f32} {x : Model.Cloud} {i : Fin 3} (h : IsRow a (x i)) :
    IsRow (kCent a) (fun n => x i n - Model.mean x i) := by
  intro n
  have hm := kMean_real h
  unfold Is1 at hm
  pointwise [kCent]
  rw [h, hm, ← EReal.coe_sub]

/-- Three rows make a cloud. -/
theorem kStack_real {a b c : FVec Ideal S1x4096 .f32} {x : Model.Cloud} (ha : IsRow a (x 0)) (hb : IsRow b (x 1)) (hc : IsRow c (x 2)) :
    IsCloud (kStack a b c) x := by
  intro i n
  pointwise [kStack]
  simp only [ha _, hb _, hc _]
  fin_cases i <;> rfl

variable {s0 s1 s2 t0 t1 t2 : FVec Ideal S1x4096 .f32} {x y : Model.Cloud}

/-- The cross-covariance. -/
theorem kH_real (h0 : IsRow s0 (x 0)) (h1 : IsRow s1 (x 1)) (h2 : IsRow s2 (x 2)) (g0 : IsRow t0 (y 0)) (g1 : IsRow t1 (y 1))
    (g2 : IsRow t2 (y 2)) : Is3 (kH s0 s1 s2 t0 t1 t2) (Model.corr x y) := by
  intro i j
  have hs := kStack_real (x := fun i n => x i n - Model.mean x i) (kCent_real h0) (kCent_real h1) (kCent_real h2)
  have ht := kStack_real (x := fun i n => y i n - Model.mean y i) (kCent_real g0) (kCent_real g1) (kCent_real g2)
  pointwise [kH]
  simp only [hs _ _, ht _ _, ← EReal.coe_mul, sum_real]
  rfl

/-- Horn's symmetric 4x4 matrix. -/
theorem kHorn_real {H : FVec Ideal S3x3 .f32} {M : Model.M3} (h : Is3 H M) : Is4 (kHorn H) (Model.horn M) := by
  intro i j
  pointwise [kHorn, kPut4]
  simp only [h _ _, ← EReal.coe_zero, ← EReal.coe_add, ← EReal.coe_sub]
  fin_cases i <;> fin_cases j <;> simp [Scalar.select, IntOp.cmpi, IntOp.andi, ← EReal.coe_zero, ← EReal.coe_add, ← EReal.coe_sub, Model.horn] <;> ring

/-- The identity, where the sweeps start. -/
theorem kEye_real : Is4 kEye Model.eye := by
  intro i j
  pointwise [kEye]
  rw [select_eq (n := 4) (by decide), ← EReal.coe_one, ← EReal.coe_zero, ← apply_ite (Real.toEReal)]
  rfl

/-- The picked column has length one, so that dividing it by its length changes nothing. -/
theorem kQuat_real {AV : FVec Ideal S4x4 .f32 × FVec Ideal S4x4 .f32} {MV : Model.M4 × Model.M4} (hAV : Is4 AV.1 MV.1 ∧ Is4 AV.2 MV.2)
    (hu : ∑ i, Model.quatOf MV i * Model.quatOf MV i = 1) : IsQ (kQuat AV) (Model.quatOf MV) := by
  intro i
  pointwise [kQuat, k0_pay117, k0_pay116]
  simp only [select_eq (n := 4) (by decide), Finset.sum_ite_eq', Finset.mem_univ, if_true, hAV.1 _ _, neg_inf, inf]
  rw [fold_first (first_max (Model.top_spec fun j => MV.1 j j)) (by rw [nine]; exact_mod_cast (by norm_num : (4 : ℝ) ≤ 9)) _
    (fun x => sitofp_ofNat (by omega))]
  simp only [pick_float _ _ _ (fun x : Fin 4 => sitofp_ofNat (by omega)), hAV.2 _ _, ← EReal.coe_mul, sum_real]
  rw [show ∑ k, MV.2 k (Model.top fun j => MV.1 j j) * MV.2 k (Model.top fun j => MV.1 j j) = 1 from hu, sqrt_real zero_le_one, Real.sqrt_one,
    div_real _ one_ne_zero, div_one]
  rfl

/-- The division by the quaternion's length changes nothing, the length being 1. -/
theorem kUnit_real (h0 : IsRow s0 (x 0)) (h1 : IsRow s1 (x 1)) (h2 : IsRow s2 (x 2)) (g0 : IsRow t0 (y 0)) (g1 : IsRow t1 (y 1))
    (g2 : IsRow t2 (y 2)) : IsQ (kUnit s0 s1 s2 t0 t1 t2) (Model.quat x y) :=
  kQuat_real (kSweeps_real 6 (MV := (Model.horn (Model.corr x y), Model.eye)) ⟨kHorn_real (kH_real h0 h1 h2 g0 g1 g2), kEye_real⟩)
    (Model.quat_unit x y)

/-- The entries of the rotation, as numbers and as an array. -/
theorem kRe_real {q : FVec Ideal S4x1 .f32} {r : Model.Quat} (h : IsQ q r) (i j : Fin 3) : Is1 (kRe q i j) (Model.R r i j) := by
  unfold Is1
  have e0 : kQw q (ix2 0 0) = ((r 0 : ℝ) : EReal) := by pointwise [kQw]; exact h 0
  have e1 : kQx q (ix2 0 0) = ((r 1 : ℝ) : EReal) := by pointwise [kQx]; exact h 1
  have e2 : kQy q (ix2 0 0) = ((r 2 : ℝ) : EReal) := by pointwise [kQy]; exact h 2
  have e3 : kQz q (ix2 0 0) = ((r 3 : ℝ) : EReal) := by pointwise [kQz]; exact h 3
  have hd : ∀ a b : FVec Ideal S1x1 .f32, kDiag a b (ix2 0 0) = 1 - ((2 : ℝ) : EReal) * (a (ix2 0 0) * a (ix2 0 0) + b (ix2 0 0) * b (ix2 0 0)) := fun a b => by
    pointwise [kDiag]; rw [two]
  have hp : ∀ a b c d : FVec Ideal S1x1 .f32, kPlus a b c d (ix2 0 0) = ((2 : ℝ) : EReal) * (a (ix2 0 0) * b (ix2 0 0) + c (ix2 0 0) * d (ix2 0 0)) := fun a b c d => by
    pointwise [kPlus]; rw [two]
  have hm : ∀ a b c d : FVec Ideal S1x1 .f32, kMinus a b c d (ix2 0 0) = ((2 : ℝ) : EReal) * (a (ix2 0 0) * b (ix2 0 0) - c (ix2 0 0) * d (ix2 0 0)) := fun a b c d => by
    pointwise [kMinus]; rw [two]
  fin_cases i <;> fin_cases j <;>
    simp [kRe, Model.R, hd, hp, hm, e0, e1, e2, e3]

/-- The rotation of a quaternion. -/
theorem kR33_real {q : FVec Ideal S4x1 .f32} {r : Model.Quat} (h : IsQ q r) : Is3 (kR33 q) (Model.R r) := by
  intro i j
  have hr := fun i j => kRe_real h i j
  unfold Is1 at hr
  pointwise [kR33, kPut3]
  simp only [hr]
  fin_cases i <;> fin_cases j <;> simp [Scalar.select, IntOp.cmpi, IntOp.andi]

/-- One entry of the shift: the target's mean less the rotated source's. -/
theorem kSh_real {q : FVec Ideal S4x1 .f32} {r : Model.Quat} (h : IsQ q r) (i : Fin 3) {m0 m1 m2 m : FVec Ideal S1x1 .f32}
    (h0 : Is1 m0 (Model.mean x 0)) (h1 : Is1 m1 (Model.mean x 1)) (h2 : Is1 m2 (Model.mean x 2)) (hm : Is1 m (Model.mean y i)) :
    Is1 (kSh q i m0 m1 m2 m) (Model.shift r x y i) := by
  have hr := fun i j => kRe_real h i j
  unfold Is1 at *
  pointwise [kSh]
  simp only [hr, h0, h1, h2, hm, ← EReal.coe_mul, ← EReal.coe_add, ← EReal.coe_sub]
  rfl

/-- The moved cloud, from the rows of both. -/
theorem kMoveRows_real {X : FVec Ideal S3x4096 .f32} (hX : IsCloud X x) (h0 : IsRow s0 (x 0)) (h1 : IsRow s1 (x 1)) (h2 : IsRow s2 (x 2))
    (g0 : IsRow t0 (y 0)) (g1 : IsRow t1 (y 1)) (g2 : IsRow t2 (y 2)) :
    IsCloud (kMoveRows s0 s1 s2 t0 t1 t2 X) (Model.move (Model.quat x y) (Model.shift (Model.quat x y) x y) x) := by
  intro i n
  have hq := kUnit_real h0 h1 h2 g0 g1 g2
  have hR := kR33_real hq
  have hsh0 := kSh_real hq 0 (kMean_real h0) (kMean_real h1) (kMean_real h2) (kMean_real g0)
  have hsh1 := kSh_real hq 1 (kMean_real h0) (kMean_real h1) (kMean_real h2) (kMean_real g1)
  have hsh2 := kSh_real hq 2 (kMean_real h0) (kMean_real h1) (kMean_real h2) (kMean_real g2)
  unfold Is1 at hsh0 hsh1 hsh2
  unfold kMoveRows
  pointwise [k0_pay206]
  simp only [hR _ _, hX _ _, hsh0, hsh1, hsh2, Fin.sum_univ_three, ← EReal.coe_mul, ← EReal.coe_add]
  fin_cases i <;> rfl

end Cert.Proof.KernelIdeal

end
-- ==== Proof.KernelNearestValue.lean ====
/-
  The kernel's search finds the nearest points: before each chunk of targets the running best is the first nearest of the
  targets seen.
-/
module

public import proofs.«01_k».proof.Proof.KernelAlignValue

@[expose] public section

noncomputable section

namespace Cert.Proof.KernelIdeal

open Cert.KernelIdeal Cert.KernelIdeal.Gen Cert.Proof.Reals Cert.Proof.Words
open Idealize.ShloMosaic Idealize.ShloMosaic.TcCoe Idealize.ShloMosaic.Tactic

set_option maxRecDepth 16384

/-- Target `m` of chunk `k`, and source `n` of tile `t`. -/
def target (k : Fin k0_t3_loop.trips) (m : Fin 512) : Fin 4096 :=
  ⟨512 * k.val + m.val, by have h : k.val < 8 := k.isLt; omega⟩
/-- The source point at place `n` of tile `t`. -/
def source (t : Fin k0_t2_loop.trips) (n : Fin 1024) : Fin 4096 :=
  ⟨1024 * t.val + n.val, by have h : t.val < 4 := t.isLt; omega⟩

/-- Where access 1 of the loops starts. -/
theorem off1 : ∀ t : Fin k0_t2_loop.trips, k0_off1 t = ![0, 1024 * t.val] := by decide
/-- Where access 2 of the loops starts. -/
theorem off2 : ∀ t : Fin k0_t2_loop.trips, k0_off2 t = ![1, 1024 * t.val] := by decide
/-- Where access 3 of the loops starts. -/
theorem off3 : ∀ t : Fin k0_t2_loop.trips, k0_off3 t = ![2, 1024 * t.val] := by decide
/-- Where access 4 of the loops starts. -/
theorem off4 : ∀ t : Fin k0_t2_loop.trips, k0_off4 t = ![0, 1024 * t.val] := by decide
/-- Where access 5 of the loops starts. -/
theorem off5 : ∀ k : Fin k0_t3_loop.trips, k0_off5 k = ![0, 512 * k.val, 0] := by decide
/-- Where access 6 of the loops starts. -/
theorem off6 : ∀ k : Fin k0_t3_loop.trips, k0_off6 k = ![0, 512 * k.val, 1] := by decide
/-- Where access 7 of the loops starts. -/
theorem off7 : ∀ k : Fin k0_t3_loop.trips, k0_off7 k = ![0, 512 * k.val, 2] := by decide
/-- Where access 8 of the loops starts. -/
theorem off8 : ∀ k : Fin k0_t3_loop.trips, k0_off8 k = ![0, 512 * k.val, 0] := by decide
/-- Where access 9 of the loops starts. -/
theorem off9 : ∀ k : Fin k0_t3_loop.trips, k0_off9 k = ![0, 0, 512 * k.val] := by decide

/-- The two blocks of targets hold the cloud `y`, by points and by rows. -/
structure IsTargets (x2 : FVec Ideal S1x4096x3 .f32) (x3 : FVec Ideal S1x3x4096 .f32) (y : Model.Cloud) : Prop where
  pts : ∀ m i, x2 (ix3 0 m i) = ((y i m : ℝ) : EReal)
  rows : ∀ i m, x3 (ix3 0 i m) = ((y i m : ℝ) : EReal)

variable {x2 : FVec Ideal S1x4096x3 .f32} {x3 : FVec Ideal S1x3x4096 .f32} {X : FVec Ideal S3x4096 .f32} {x y : Model.Cloud}
variable (hy : IsTargets x2 x3 y) (hX : IsCloud X x) (t : Fin k0_t2_loop.trips) (n : Fin 1024) (k : Fin k0_t3_loop.trips)

include hX in
/-- Coordinate 0 of a tile's points. -/
theorem tile0_real : tileRow0 X t (ix2 0 n) = ((x 0 (source t n) : ℝ) : EReal) := by
  pointwise [tileRow0]
  rw [← hX 0 (source t n)]; congr 1; refine congrArg₂ ix2 (Fin.ext ?_) (Fin.ext ?_) <;> simp [off1, source]
include hX in
/-- Coordinate 1 of a tile's points. -/
theorem tile1_real : tileRow1 X t (ix2 0 n) = ((x 1 (source t n) : ℝ) : EReal) := by
  pointwise [tileRow1]
  rw [← hX 1 (source t n)]; congr 1; refine congrArg₂ ix2 (Fin.ext ?_) (Fin.ext ?_) <;> simp [off2, source]
include hX in
/-- Coordinate 2 of a tile's points. -/
theorem tile2_real : tileRow2 X t (ix2 0 n) = ((x 2 (source t n) : ℝ) : EReal) := by
  pointwise [tileRow2]
  rw [← hX 2 (source t n)]; congr 1; refine congrArg₂ ix2 (Fin.ext ?_) (Fin.ext ?_) <;> simp [off3, source]
include hX in
/-- All coordinates of a tile's points. -/
theorem tileAll_real (i : Fin 3) : tileAll X t (ix2 i n) = ((x i (source t n) : ℝ) : EReal) := by
  pointwise [tileAll]
  rw [← hX i (source t n)]; congr 1; refine congrArg₂ ix2 (Fin.ext ?_) (Fin.ext ?_) <;> simp [off4, source]

include hy in
/-- Coordinate 0 of a chunk's targets. -/
theorem chunk0_real (m : Fin 512) : chunk0 x2 k (ix3 0 m 0) = ((y 0 (target k m) : ℝ) : EReal) := by
  pointwise [chunk0]
  rw [← hy.pts (target k m) 0]; congr 1; simp [off5, target]
include hy in
/-- Coordinate 1 of a chunk's targets. -/
theorem chunk1_real (m : Fin 512) : chunk1 x2 k (ix3 0 m 0) = ((y 1 (target k m) : ℝ) : EReal) := by
  pointwise [chunk1]
  rw [← hy.pts (target k m) 1]; congr 1; simp [off6, target]
include hy in
/-- Coordinate 2 of a chunk's targets. -/
theorem chunk2_real (m : Fin 512) : chunk2 x2 k (ix3 0 m 0) = ((y 2 (target k m) : ℝ) : EReal) := by
  pointwise [chunk2]
  rw [← hy.pts (target k m) 2]; congr 1; simp [off7, target]
include hy in
/-- All coordinates of a chunk's targets. -/
theorem chunkAll_real (m : Fin 512) (i : Fin 3) : chunkAll x2 k (ix3 0 m i) = ((y i (target k m) : ℝ) : EReal) := by
  pointwise [chunkAll]
  rw [← hy.pts (target k m) i]; congr 1; simp [off8, target]
include hy in
/-- The transposed chunk has the same coordinates. -/
theorem chunkRows_real (i : Fin 3) (m : Fin 512) : chunkRows x3 k (ix3 0 i m) = ((y i (target k m) : ℝ) : EReal) := by
  pointwise [chunkRows]
  rw [← hy.rows i (target k m)]; congr 1; simp [off9, target]

include hy hX in
/-- The distances of a chunk. -/
theorem pay2_real (m : Fin 512) : k0_pay2 (tileAll X t) (k0_pay72 (tileRow0 X t) (tileRow1 X t) (tileRow2 X t)) (chunk0 x2 k) (chunk1 x2 k)
    (chunk2 x2 k) (chunkAll x2 k) (ix2 m n) = ((Model.dist x y (source t n) (target k m) : ℝ) : EReal) := by
  pointwise [k0_pay2, k0_pay72]
  simp only [tile0_real hX, tile1_real hX, tile2_real hX, tileAll_real hX, chunk0_real hy, chunk1_real hy, chunk2_real hy, chunkAll_real hy,
    two, Fin.sum_univ_three, ← EReal.coe_zero, ← EReal.coe_mul, ← EReal.coe_add, ← EReal.coe_sub, max_real]
  unfold Model.dist
  congr 3
  ring

/-- The first nearest target of a chunk. -/
def nearIn (x y : Model.Cloud) (t : Fin k0_t2_loop.trips) (n : Fin 1024) (k : Fin k0_t3_loop.trips) : Fin 512 :=
  Model.least fun m => Model.dist x y (source t n) (target k m)

include hy hX in
/-- The squared distances of a tile's points to a chunk's targets, none below zero. -/
theorem pay3_real : k0_pay3 (tileAll X t) (k0_pay72 (tileRow0 X t) (tileRow1 X t) (tileRow2 X t)) (chunk0 x2 k) (chunk1 x2 k)
    (chunk2 x2 k) (chunkAll x2 k) (ix2 0 n) = ((Model.dist x y (source t n) (target k (nearIn x y t n k)) : ℝ) : EReal) := by
  pointwise [k0_pay3]
  simp only [pay2_real hy hX, inf]
  exact fold_min (f := fun m => ((Model.dist x y (source t n) (target k m) : ℝ) : EReal)) fun j =>
    EReal.coe_le_coe_iff.mpr ((Model.least_spec fun m => Model.dist x y (source t n) (target k m)).1 j)

/-- The constant `far` is read as `⊤`. -/
theorem far : Named.named (F := Ideal) κ "far" (φ := .f32) 0x7149F2CA#32 = (⊤ : EReal) := rfl

/-- The number of each target of a chunk, as a float, down a column. -/
theorem pay4_real (m : Fin 512) : k0_pay4 (F := Ideal) 0#32 1#32 k (ix2 m 0) = (((512 * k.val + m.val : ℕ) : ℝ) : EReal) := by
  pointwise [k0_pay4]
  rw [sitofp_ofNat (by omega)]
  have e : ∀ k : Fin k0_t3_loop.trips, (Scalar.muli (Scf.iv 0#32 1#32 k.val) 512#32).toInt = ((512 * k.val : ℕ) : ℤ) := by decide
  rw [e, ← EReal.coe_add]
  push_cast
  rw [add_comm]

/-- The number of each target of a chunk, as a float, over a tile. -/
theorem pay5_real (m : Fin 512) : k0_pay5 (F := Ideal) 0#32 1#32 k (ix2 m n) = (((512 * k.val + m.val : ℕ) : ℝ) : EReal) := by
  rw [← pay4_real k m]
  pointwise [k0_pay5]

include hy hX in
/-- The number of the first nearest target in the chunk. -/
theorem pay6_real (m : Fin 512) : k0_pay6 (tileAll X t) (k0_pay72 (tileRow0 X t) (tileRow1 X t) (tileRow2 X t)) 0#32 1#32 k (chunk0 x2 k)
    (chunk1 x2 k) (chunk2 x2 k) (chunkAll x2 k) (ix2 m n) = (((512 * k.val + (nearIn x y t n k).val : ℕ) : ℝ) : EReal) := by
  pointwise [k0_pay6]
  simp only [pay2_real hy hX, pay3_real hy hX, pay4_real, inf, far]
  have hl := Model.least_spec fun m => Model.dist x y (source t n) (target k m)
  have e : ∀ j : Fin 512, ((Model.dist x y (source t n) (target k j) : ℝ) : EReal) = ((Model.dist x y (source t n) (target k (nearIn x y t n k)) : ℝ) : EReal) →
      nearIn x y t n k ≤ j := fun j hj => hl.2 j fun l => (EReal.coe_eq_coe_iff.mp hj).le.trans (hl.1 l)
  rw [fold_min (i := nearIn x y t n k) fun j => ?_, if_pos rfl]
  rw [if_pos rfl]
  split
  · rename_i hj
    have := e j hj
    rw [EReal.coe_le_coe_iff, Nat.cast_le]
    exact Nat.add_le_add_left this _
  · exact le_top

/-- What the running best holds of source `n` of tile `t` before chunk `k`: nothing yet, or the first nearest of the
targets before. -/
def Best (x y : Model.Cloud) (t : Fin k0_t2_loop.trips) (n : Fin 1024) (k : ℕ) (acc : Acc Ideal) : Prop :=
  (k = 0 ∧ acc.1 (ix2 0 n) = ⊤) ∨ ∃ m : Fin 4096, m.val < 512 * k ∧ (∀ j : Fin 4096, j.val < 512 * k → Model.dist x y (source t n) m ≤ Model.dist x y (source t n) j)
    ∧ (∀ j : Fin 4096, j < m → Model.dist x y (source t n) m < Model.dist x y (source t n) j)
    ∧ acc.1 (ix2 0 n) = ((Model.dist x y (source t n) m : ℝ) : EReal) ∧ ∀ i, acc.2 (ix2 i n) = ((y i m : ℝ) : EReal)

include hy hX in
/-- One chunk keeps the carried values the best so far. -/
theorem best_step {acc : Acc Ideal} (h : Best x y t n k.val acc) :
    Best x y t n (k.val + 1) (nnStep x2 x3 (tileRow0 X t) (tileRow1 X t) (tileRow2 X t) (tileAll X t) k acc) := by
  have hl := Model.least_spec fun m => Model.dist x y (source t n) (target k m)
  have h3 := pay3_real hy hX t n k
  have h1 : (nnStep x2 x3 (tileRow0 X t) (tileRow1 X t) (tileRow2 X t) (tileAll X t) k acc).1 (ix2 0 n)
      = if ((Model.dist x y (source t n) (target k (nearIn x y t n k)) : ℝ) : EReal) < acc.1 (ix2 0 n)
        then ((Model.dist x y (source t n) (target k (nearIn x y t n k)) : ℝ) : EReal) else acc.1 (ix2 0 n) := by
    rw [← h3]
    unfold nnStep
    pointwise [k0_pay76, k0_pay75]
  have h2 : ∀ i, (nnStep x2 x3 (tileRow0 X t) (tileRow1 X t) (tileRow2 X t) (tileAll X t) k acc).2 (ix2 i n)
      = if ((Model.dist x y (source t n) (target k (nearIn x y t n k)) : ℝ) : EReal) < acc.1 (ix2 0 n)
        then ((y i (target k (nearIn x y t n k)) : ℝ) : EReal) else acc.2 (ix2 i n) := by
    intro i
    have e : ∀ m : Fin 512, ((((512 * k.val + m.val : ℕ) : ℝ) : EReal) = (((512 * k.val + (nearIn x y t n k).val : ℕ) : ℝ) : EReal)) ↔ m = nearIn x y t n k := fun m => by
      rw [EReal.coe_eq_coe_iff, Nat.cast_inj, Nat.add_left_cancel_iff, Fin.ext_iff]
    unfold nnStep
    pointwise [k0_pay77, k0_pay75]
    simp only [h3, pay5_real, pay6_real hy hX, e, chunkRows_real hy, mul_ite, mul_one, mul_zero, Finset.sum_ite_eq', Finset.mem_univ, if_true]
  have inChunk : ∀ j : Fin 4096, j.val < 512 * (k.val + 1) → ¬ j.val < 512 * k.val → ∃ m, j = target k m := fun j hj hj' =>
    ⟨⟨j.val - 512 * k.val, by omega⟩, Fin.ext (by simp only [target]; omega)⟩
  have hk8 : k.val < 8 := k.isLt
  by_cases hlt : ((Model.dist x y (source t n) (target k (nearIn x y t n k)) : ℝ) : EReal) < acc.1 (ix2 0 n)
  · refine .inr ⟨target k (nearIn x y t n k), by simp only [target]; omega, fun j hj => ?_, fun j hj => ?_, by rw [h1, if_pos hlt], fun i => by rw [h2, if_pos hlt]⟩
    · by_cases hj' : j.val < 512 * k.val
      · rcases h with ⟨h0, _⟩ | ⟨m, _, hm, _, ha, _⟩
        · omega
        · rw [ha, EReal.coe_lt_coe_iff] at hlt
          exact hlt.le.trans (hm j hj')
      · obtain ⟨m, rfl⟩ := inChunk j hj hj'
        exact hl.1 m
    · by_cases hj' : j.val < 512 * k.val
      · rcases h with ⟨h0, _⟩ | ⟨m, _, hm, _, ha, _⟩
        · omega
        · rw [ha, EReal.coe_lt_coe_iff] at hlt
          exact hlt.trans_le (hm j hj')
      · have hj2 : j.val < (target k (nearIn x y t n k)).val := hj
        obtain ⟨m, rfl⟩ := inChunk j (by simp only [target] at hj2; omega) hj'
        by_contra hc
        have := hl.2 m fun l => (not_lt.mp hc).trans (hl.1 l)
        have : (nearIn x y t n k).val ≤ m.val := this
        simp only [target] at hj2
        omega
  · rcases h with ⟨_, h0⟩ | ⟨m, hmk, hm, hf, ha, hb⟩
    · rw [h0] at hlt
      exact absurd (EReal.coe_lt_top _) hlt
    · refine .inr ⟨m, by omega, fun j hj => ?_, hf, by rw [h1, if_neg hlt, ha], fun i => by rw [h2, if_neg hlt, hb]⟩
      by_cases hj' : j.val < 512 * k.val
      · exact hm j hj'
      · obtain ⟨l, rfl⟩ := inChunk j hj hj'
        rw [ha, EReal.coe_lt_coe_iff, not_lt] at hlt
        exact hlt.trans (hl.1 l)

include hy hX in
/-- The carried values after `j` chunks are the best of those. -/
theorem best_all (j : ℕ) (hj : j ≤ k0_t3_loop.trips) :
    Best x y t n j (nnAcc x2 x3 (tileRow0 X t) (tileRow1 X t) (tileRow2 X t) (tileAll X t) j) := by
  induction j with
  | zero =>
    refine .inl ⟨rfl, ?_⟩
    show k0_pay73 (ix2 0 n) = ⊤
    pointwise [k0_pay73]
    exact far
  | succ j ih => exact nnAcc_succ x2 x3 _ _ _ _ ⟨j, hj⟩ ▸ best_step hy hX t n ⟨j, hj⟩ (ih (Nat.le_of_succ_le hj))

include hy hX in
/-- A tile's matched points are the nearest ones. -/
theorem nnTile_real (i : Fin 3) : nnTile x2 x3 X t (ix2 i n) = ((Model.nearest x y i (source t n) : ℝ) : EReal) := by
  have h := best_all hy hX t n k0_t3_loop.trips le_rfl
  unfold nnTile
  pointwise [k0_pay78]
  rcases h with ⟨h0, _⟩ | ⟨m, _, hm, hf, _, hb⟩
  · exact absurd h0 (by decide)
  · rw [hb]
    have hL : Model.IsLeast (Model.dist x y (source t n)) m :=
      ⟨fun j => hm j j.isLt, fun j hj => not_lt.mp fun hlt => absurd (hf j hlt) (not_lt.mpr (hj m))⟩
    rw [hL.unique (Model.least_spec _)]
    rfl

include hy hX in
/-- All the matched points. -/
theorem nnAll_real : IsCloud (nnAll x2 x3 X) (Model.nearest x y) := by
  intro i N
  have hN := N.isLt
  have h := nnTile_real hy hX ⟨N.val / 1024, Nat.div_lt_of_lt_mul N.isLt⟩ ⟨N.val % 1024, Nat.mod_lt _ (by decide)⟩ i
  have e : source ⟨N.val / 1024, Nat.div_lt_of_lt_mul N.isLt⟩ ⟨N.val % 1024, Nat.mod_lt _ (by decide)⟩ = N :=
    Fin.ext (by simp only [source]; omega)
  rw [e] at h
  exact h

end Cert.Proof.KernelIdeal

end
-- ==== Proof.KernelPoseValue.lean ====
/-
  The kernel's iterations and its result block, of clouds of reals: the moved cloud and the pose.
-/
module

public import proofs.«01_k».proof.Proof.KernelNearestValue

@[expose] public section

noncomputable section

namespace Cert.Proof.KernelIdeal

open Cert.KernelIdeal Cert.KernelIdeal.Gen Cert.Proof.Reals Cert.Proof.Words
open Idealize.ShloMosaic Idealize.ShloMosaic.TcCoe Idealize.ShloMosaic.Tactic

set_option maxRecDepth 16384

variable {x1 : FVec Ideal S1x3x4096 .f32} {x2 : FVec Ideal S1x4096x3 .f32} {x3 : FVec Ideal S1x3x4096 .f32}
variable {X : FVec Ideal S3x4096 .f32} {x y : Model.Cloud}

/-- Row 0 of a cloud. -/
theorem kRow0_real (hX : IsCloud X x) : IsRow (kRow0 X) (x 0) := fun n => by pointwise [kRow0]; exact hX 0 n
/-- Row 1 of a cloud. -/
theorem kRow1_real (hX : IsCloud X x) : IsRow (kRow1 X) (x 1) := fun n => by pointwise [kRow1]; exact hX 1 n
/-- Row 2 of a cloud. -/
theorem kRow2_real (hX : IsCloud X x) : IsRow (kRow2 X) (x 2) := fun n => by pointwise [kRow2]; exact hX 2 n

/-- One iteration moves the cloud as the model does. -/
theorem kStep_real (hy : IsTargets x2 x3 y) (hX : IsCloud X x) : IsCloud (kStep x2 x3 X) (Model.step y x) := by
  have hg := nnAll_real hy hX
  exact kMoveRows_real hX (kRow0_real hX) (kRow1_real hX) (kRow2_real hX) (kRow0_real hg) (kRow1_real hg) (kRow2_real hg)

/-- The moved cloud before iteration `k`. -/
theorem icp_real (hx : ∀ i n, x1 (ix3 0 i n) = ((x i n : ℝ) : EReal)) (hy : IsTargets x2 x3 y) (k : ℕ) :
    IsCloud (icp x1 x2 x3 k) ((Model.step y)^[k] x) := by
  induction k with
  | zero =>
    intro i n
    show k0_pay205 (F := Ideal) x1 (ix2 i n) = _
    pointwise [k0_pay205]
    exact hx i n
  | succ k ih => rw [Function.iterate_succ_apply']; exact kStep_real hy ih

/-- The quaternion with the sign of its first greatest entry. -/
theorem pay262_real {q : FVec Ideal S4x1 .f32} {r : Model.Quat} (h : IsQ q r) : IsQ (k0_pay262 q) (Model.signed r) := by
  intro i
  pointwise [k0_pay262]
  simp only [h _, abs_real, neg_inf, inf]
  rw [fold_first (first_max (Model.top_spec fun j => |r j|)) (by rw [nine]; exact_mod_cast (by norm_num : (4 : ℝ) ≤ 9)) _
    (fun x => sitofp_ofNat (by omega))]
  rw [pick_float _ _ _ (fun x : Fin 4 => sitofp_ofNat (by omega))]
  simp only [neg_one, ← EReal.coe_one, ← EReal.coe_zero, EReal.coe_lt_coe_iff,
    ← apply_ite (Real.toEReal), ← EReal.coe_mul]
  rw [mul_comm]
  rfl

/-- The result block holds the pose. -/
theorem kOut_real (hx : ∀ i n, x1 (ix3 0 i n) = ((x i n : ℝ) : EReal)) (hy : IsTargets x2 x3 y) (i : Fin 7) :
    kOut x1 x2 x3 (ix3 0 0 ⟨i.val, by omega⟩) = ((Model.pose x y i : ℝ) : EReal) := by
  have hz := icp_real hx hy 10
  have h0 : IsRow (k0_pay207 (F := Ideal) (kBlk0 x1)) (x 0) := fun n => by pointwise [k0_pay207, kBlk0]; exact hx 0 n
  have h1 : IsRow (k0_pay208 (F := Ideal) (kBlk1 x1)) (x 1) := fun n => by pointwise [k0_pay208, kBlk1]; exact hx 1 n
  have h2 : IsRow (k0_pay209 (F := Ideal) (kBlk2 x1)) (x 2) := fun n => by pointwise [k0_pay209, kBlk2]; exact hx 2 n
  have g0 := kRow0_real hz
  have g1 := kRow1_real hz
  have g2 := kRow2_real hz
  have hq := kUnit_real h0 h1 h2 g0 g1 g2
  have ht0 := kSh_real hq 0 (kMean_real h0) (kMean_real h1) (kMean_real h2) (kMean_real g0)
  have ht1 := kSh_real hq 1 (kMean_real h0) (kMean_real h1) (kMean_real h2) (kMean_real g1)
  have ht2 := kSh_real hq 2 (kMean_real h0) (kMean_real h1) (kMean_real h2) (kMean_real g2)
  have hs := pay262_real hq
  unfold Is1 at ht0 ht1 ht2
  unfold kOut kOutRows
  generalize kUnit (F := Ideal) _ _ _ _ _ _ = q at *
  generalize kSh (F := Ideal) q 0 _ _ _ _ = t0 at *
  generalize kSh (F := Ideal) q 1 _ _ _ _ = t1 at *
  generalize kSh (F := Ideal) q 2 _ _ _ _ = t2 at *
  pointwise [kPack, k0_pay1, k0_pay263, k0_pay264, k0_pay265, k0_pay266, k0_pay267, k0_pay268, k0_pay269]
  simp only [ht0, ht1, ht2, hs _]
  fin_cases i <;> rfl

end Cert.Proof.KernelIdeal

end
-- ==== Proof.KernelResult.lean ====
/-
  The result of the whole kernel, of clouds of reals: the poses.
-/
module

public import proofs.«01_k».proof.Proof.KernelPoseValue
public import proofs.«01_k».proof.Proof.KernelIdealFrame
public import Idealize.ShloMosaic.Lib.Pipeline.ValueKit
public import Idealize.ShloMosaic.Lib.StableHlo.ReadAt

@[expose] public section

noncomputable section

namespace Cert.Proof.KernelIdeal

open Cert.KernelIdeal Cert.KernelIdeal.Gen Cert.Proof.Reals Cert.Proof.Words
open Idealize.ShloMosaic Idealize.ShloMosaic.TcCoe Idealize.ShloMosaic.Tactic Idealize.SL.Sem
open Idealize.ShloMosaic.Pipeline (Dat Cfg Window)

set_option maxRecDepth 16384

variable (m : (ℓ : Loc nD τ sig) → Buf (Elt Ideal) ℓ) (c : Dev nD)

/-- The grid point that works on pair `b`. -/
abbrev pt (b : Fin 2) : Fin cfg0.N := ⟨b.val, b.isLt⟩

/-- The two transposes made before the region. -/
theorem V_v0 (b : Fin 2) (i : Fin 3) (n : Fin 4096) :
    V m c main_v0 (ix3 b i n) = m ((c.tc : Thread nD τ).loc main_arg0) (ix3 b n i) := by
  unfold V
  after_reads_at

/-- The second transpose made before the region. -/
theorem V_v1 (b : Fin 2) (i : Fin 3) (n : Fin 4096) :
    V m c main_v1 (ix3 b i n) = m ((c.tc : Thread nD τ).loc main_arg1) (ix3 b n i) := by
  unfold V
  after_reads_at

/-- The targets are not written before the region. -/
theorem V_arg1 (j : S2x4096x3.Idx) : V m c main_arg1 j = m ((c.tc : Thread nD τ).loc main_arg1) j := by
  unfold V
  after_reads_at

/-- Where each window's block at pair `b` sits in its array. -/
theorem emb_0 (b : Fin 2) (i : Fin 3) (n : Fin 4096) : (win0_0.blk (pt b)).view.emb (ix3 0 i n) = ix3 b i n := by
  refine funext fun a => Fin.ext ?_
  blk_simp
  fin_cases b <;> fin_cases a <;> simp <;> rfl

/-- The targets' block at pair `b`. -/
theorem emb_1 (b : Fin 2) (n : Fin 4096) (i : Fin 3) : (win0_1.blk (pt b)).view.emb (ix3 0 n i) = ix3 b n i := by
  refine funext fun a => Fin.ext ?_
  blk_simp
  fin_cases b <;> fin_cases a <;> simp <;> rfl

/-- The transposed targets' block at pair `b`. -/
theorem emb_2 (b : Fin 2) (i : Fin 3) (n : Fin 4096) : (win0_2.blk (pt b)).view.emb (ix3 0 i n) = ix3 b i n := by
  refine funext fun a => Fin.ext ?_
  blk_simp
  fin_cases b <;> fin_cases a <;> simp <;> rfl

/-- The output's block at pair `b`. -/
theorem emb_3 (b : Fin 2) (i : Fin 8) : (win0_3.blk (pt b)).view.emb (ix3 0 0 i) = ix3 b 0 i := by
  refine funext fun a => Fin.ext ?_
  blk_simp
  fin_cases b <;> fin_cases a <;> simp <;> rfl

/-- The three inputs' blocks at pair `b`. -/
theorem iblk_0 (b : Fin 2) (i : Fin 3) (n : Fin 4096) :
    (iblk m c 0 (pt b) : FVec Ideal S1x3x4096 .f32) (ix3 0 i n) = m ((c.tc : Thread nD τ).loc main_arg0) (ix3 b n i) := by
  rw [← V_v0 m c, ← emb_0 b i n]
  blk_simp [iblk]

/-- The targets' block holds pair `b`'s targets. -/
theorem iblk_1 (b : Fin 2) (n : Fin 4096) (i : Fin 3) :
    (iblk m c 1 (pt b) : FVec Ideal S1x4096x3 .f32) (ix3 0 n i) = m ((c.tc : Thread nD τ).loc main_arg1) (ix3 b n i) := by
  rw [← V_arg1 m c, ← emb_1 b n i]
  blk_simp [iblk]

/-- So does the transposed one. -/
theorem iblk_2 (b : Fin 2) (i : Fin 3) (n : Fin 4096) :
    (iblk m c 2 (pt b) : FVec Ideal S1x3x4096 .f32) (ix3 0 i n) = m ((c.tc : Thread nD τ).loc main_arg1) (ix3 b n i) := by
  rw [← V_v1 m c, ← emb_2 b i n]
  blk_simp [iblk]

/-- The region's result at pair `b`. -/
theorem arr_3 (b : Fin 2) (i : Fin 8) : (dats m 0 c).arrAt 3 cfg0.N (ix3 b 0 i)
    = kOut (F := Ideal) (iblk m c 0 (pt b)) (iblk m c 1 (pt b)) (iblk m c 2 (pt b)) (ix3 0 0 i) := by
  have h := (dats m 0 c).arrAt_emb_eq_flushed 3 (Window.hdisj_of_index_inj _ (by decide +kernel)) (pt b) (by decide +revert +kernel) (ix3 0 0 i)
  rw [show ((cfg0.win 3).blk (pt b)).view.emb (ix3 0 0 i) = ix3 b 0 i from emb_3 b i] at h
  refine h.trans ?_
  unfold Dat.flushed
  rw [after0_3]
  rfl

/-- What the buffers hold once the region has run. -/
abbrev exitV : Valuation τ sig (Elt Ideal) := Pipeline.withArrays (cfgs 0).spec c (V0 m c) fun w => (dats m 0 c).arrAt w (cfgs 0).N

/-- The output array then is what the grid points left. -/
theorem exit_out : exitV m c (Proc.devRef .tc main_v2) = (dats m 0 c).arrAt 3 cfg0.N :=
  Pipeline.withArrays_arr (cfgs 0).spec (by decide) c (V0 m c) _ 3

/-- The poses, of clouds of reals. -/
theorem result_real {b : Fin 2} {x y : Model.Cloud} (hx : ∀ n i, m ((c.tc : Thread nD τ).loc main_arg0) (ix3 b n i) = ((x i n : ℝ) : EReal))
    (hy : ∀ n i, m ((c.tc : Thread nD τ).loc main_arg1) (ix3 b n i) = ((y i n : ℝ) : EReal)) (i : Fin 7) :
    Pipeline.afterTail₀ cfgs (dats m) 0 (V0 m) [hostOps1] c main_v4 (ix2 b i) = ((Model.pose x y i : ℝ) : EReal) := by
  have e : ∀ W : Valuation τ sig (Elt Ideal), StableHlo.after (hostOps1 (F := Ideal)) W (Proc.devRef .tc main_v4) (ix2 b i)
      = W (Proc.devRef .tc main_v2) (ix3 b 0 ⟨i.val, by omega⟩) := fun W => by
    after_reads_at
  refine (e (exitV m c)).trans ?_
  rw [exit_out, arr_3]
  exact kOut_real (fun i n => (iblk_0 m c b i n).trans (hx n i))
    ⟨fun n i => (iblk_1 m c b n i).trans (hy n i), fun i n => (iblk_2 m c b i n).trans (hy n i)⟩ i

end Cert.Proof.KernelIdeal

end
-- ==== Proof.RefRotValue.lean ====
/-
  The reference's plane rotations, of one cloud's arrays of reals, are the real ones.
-/
module

public import proofs.«01_k».proof.Proof.RefOps
public import proofs.«01_k».proof.Proof.Words

@[expose] public section

noncomputable section

namespace Cert.Proof.ReferenceIdeal

open Cert.ReferenceIdeal Cert.ReferenceIdeal.Gen Cert.Proof.Reals Cert.Proof.Words
open Idealize.ShloMosaic Idealize.ShloMosaic.TcCoe Idealize.ShloMosaic.Tactic

set_option maxRecDepth 16384

variable {b : Fin 2}

/-- Cloud `b`'s one entry of `x` is the real `r`; its entries of `A` are those of the real matrix `M`. -/
def Is1 (b : Fin 2) (x : FVec Ideal S2x1x1 .f32) (r : ℝ) : Prop := x (ix3 b 0 0) = (r : EReal)
/-- Of pair `b`, the array is the 3x3 matrix `M`. -/
def Is3 (b : Fin 2) (A : FVec Ideal S2x3x3 .f32) (M : Model.M3) : Prop := ∀ i j, A (ix3 b i j) = ((M i j : ℝ) : EReal)
/-- Of pair `b`, the array is the 4x4 matrix `M`. -/
def Is4 (b : Fin 2) (A : FVec Ideal S2x4x4 .f32) (M : Model.M4) : Prop := ∀ i j, A (ix3 b i j) = ((M i j : ℝ) : EReal)

/-- The tangent of a rotation, from the three entries. -/
theorem rTan_real {x y d : FVec Ideal S2x1x1 .f32} {rx ry rd : ℝ} (hx : Is1 b x rx) (hy : Is1 b y ry) (hd : Is1 b d rd) :
    Is1 b (rTan x y d) (Model.tan rx ry rd) := by
  unfold Is1 at *
  pointwise [rTan, zero1, one1, two1, neg1]
  rw [hx, hy, hd]
  unfold Model.tan
  by_cases h : rd = 0
  · simp [h]
  · have h0 : ((rd : ℝ) : EReal) ≠ 0 := by exact_mod_cast h
    have h2 : (2 * rd) ≠ 0 := mul_ne_zero two_ne_zero h
    simp only [if_neg h, if_neg h0, two, ← EReal.coe_mul, ← EReal.coe_sub, div_real _ h2]
    generalize (ry - rx) / (2 * rd) = τ
    have hp : 0 ≤ 1 + τ * τ := by nlinarith [mul_self_nonneg τ]
    have hs : 1 ≤ √(1 + τ * τ) := Real.one_le_sqrt.mpr (by nlinarith [mul_self_nonneg τ])
    have hn : |τ| + √(1 + τ * τ) ≠ 0 := by have := abs_nonneg τ; positivity
    simp only [abs_real, neg_one, ← EReal.coe_one, ← EReal.coe_zero, ← EReal.coe_add, sqrt_real hp, EReal.coe_lt_coe_iff,
      ← apply_ite (Real.toEReal), div_real _ hn]

/-- The cosine from the tangent. -/
theorem rCos_real {t : FVec Ideal S2x1x1 .f32} {r : ℝ} (h : Is1 b t r) : Is1 b (rCos t) (Model.cos r) := by
  unfold Is1 at *
  have hp : 0 ≤ 1 + r * r := by nlinarith [mul_self_nonneg r]
  have hs : √(1 + r * r) ≠ 0 := (Real.sqrt_pos.mpr (by nlinarith [mul_self_nonneg r])).ne'
  pointwise [rCos, one1]
  rw [h, ← EReal.coe_one, ← EReal.coe_mul, ← EReal.coe_add, sqrt_real hp, div_real _ hs]
  rfl

/-- The sine from the tangent. -/
theorem rSin_real {t : FVec Ideal S2x1x1 .f32} {r : ℝ} (h : Is1 b t r) : Is1 b (mulf t (rCos t)) (Model.sin r) := by
  have hc := rCos_real h
  unfold Is1 at *
  pointwise
  rw [h, hc, ← EReal.coe_mul]
  rfl

variable {p q : Fin 4} (hpq : p ≠ q) (h : Pair p q)

/-- The tangent for the pair's entries of a matrix. -/
theorem rTanOf_real {A : FVec Ideal S2x4x4 .f32} {M : Model.M4} (hA : Is4 b A M) : Is1 b (rTanOf p q h A) (Model.tanOf p q M) := by
  refine rTan_real ?_ ?_ ?_ <;> · unfold Is1; pointwise; exact hA _ _

/-- The rotation's matrix. -/
def turn (p q : Fin 4) (c s : ℝ) : Model.M4 := fun i j =>
  if i = p ∧ j = q then s else if i = q ∧ j = p then 0 - s else if i = j ∧ (i = p ∨ i = q) then c else if i = j then 1 else 0

/-- The plane rotation, as a whole matrix. -/
theorem rJ_real {c s : FVec Ideal S2x1x1 .f32} {rc rs : ℝ} (hc : Is1 b c rc) (hs : Is1 b s rs) :
    Is4 b (rJ (BitVec.ofNat 32 p.val) (BitVec.ofNat 32 q.val) c s) (turn p q rc rs) := by
  intro i j
  unfold Is1 at *
  pointwise [rJ, at4, bc4, eye, ri4, ci4, zero1]
  simp only [cmp_eq (n := 4) (by decide), and_if, or_if, select_if, hc, hs, ← EReal.coe_one, ← EReal.coe_zero, ← EReal.coe_sub,
    ← apply_ite (Real.toEReal)]
  rfl

include hpq in
/-- Its transpose times a matrix turns two rows. -/
theorem turn_rows (c s : ℝ) (M : Model.M4) (i j : Fin 4) : ∑ k, turn p q c s k i * M k j = Model.rows p q c s M i j := by
  unfold turn Model.rows
  fin_cases p <;> fin_cases q <;> first | exact absurd rfl hpq | (fin_cases i <;> simp [Fin.sum_univ_four] <;> ring)

include hpq in
/-- A matrix times it turns two columns. -/
theorem turn_cols (c s : ℝ) (M : Model.M4) (i j : Fin 4) : ∑ k, M i k * turn p q c s k j = Model.cols p q c s M i j := by
  unfold turn Model.cols
  fin_cases p <;> fin_cases q <;> first | exact absurd rfl hpq | (fin_cases j <;> simp [Fin.sum_univ_four] <;> ring)

include hpq in
/-- The product by the transpose. -/
theorem mulT_real {J A : FVec Ideal S2x4x4 .f32} {c s : ℝ} {M : Model.M4} (hJ : Is4 b J (turn p q c s)) (hA : Is4 b A M) :
    Is4 b (mulT J A) (Model.rows p q c s M) := by
  intro i j
  pointwise [mulT]
  simp only [hJ _ _, hA _ _, ← EReal.coe_mul, sum_real, turn_rows hpq]

include hpq in
/-- The product from the right. -/
theorem mulR_real {J A : FVec Ideal S2x4x4 .f32} {c s : ℝ} {M : Model.M4} (hJ : Is4 b J (turn p q c s)) (hA : Is4 b A M) :
    Is4 b (mulR A J) (Model.cols p q c s M) := by
  intro i j
  pointwise [mulR]
  simp only [hJ _ _, hA _ _, ← EReal.coe_mul, sum_real, turn_cols hpq]

include hpq in
/-- One rotation, one sweep, several sweeps. -/
theorem rRot_real {AV : FVec Ideal S2x4x4 .f32 × FVec Ideal S2x4x4 .f32} {MV : Model.M4 × Model.M4} (hA : Is4 b AV.1 MV.1) (hV : Is4 b AV.2 MV.2) :
    Is4 b (rRot p q h AV).1 (Model.rot p q MV).1 ∧ Is4 b (rRot p q h AV).2 (Model.rot p q MV).2 := by
  have ht := rTanOf_real h hA
  have hJ := rJ_real (p := p) (q := q) (rCos_real ht) (rSin_real ht)
  exact ⟨mulR_real hpq hJ (mulT_real hpq hJ hA), mulR_real hpq hJ hV⟩

/-- A sweep. -/
theorem rSweep_real {AV : FVec Ideal S2x4x4 .f32 × FVec Ideal S2x4x4 .f32} {MV : Model.M4 × Model.M4}
    (hAV : Is4 b AV.1 MV.1 ∧ Is4 b AV.2 MV.2) : Is4 b (rSweep AV).1 (Model.sweep MV).1 ∧ Is4 b (rSweep AV).2 (Model.sweep MV).2 := by
  have h1 := rRot_real (p := 0) (q := 1) (by decide) pair01 hAV.1 hAV.2
  have h2 := rRot_real (p := 0) (q := 2) (by decide) pair02 h1.1 h1.2
  have h3 := rRot_real (p := 0) (q := 3) (by decide) pair03 h2.1 h2.2
  have h4 := rRot_real (p := 1) (q := 2) (by decide) pair12 h3.1 h3.2
  have h5 := rRot_real (p := 1) (q := 3) (by decide) pair13 h4.1 h4.2
  exact rRot_real (p := 2) (q := 3) (by decide) pair23 h5.1 h5.2

/-- Any number of sweeps. -/
theorem rSweeps_real (n : ℕ) {AV : FVec Ideal S2x4x4 .f32 × FVec Ideal S2x4x4 .f32} {MV : Model.M4 × Model.M4}
    (hAV : Is4 b AV.1 MV.1 ∧ Is4 b AV.2 MV.2) :
    Is4 b (rSweep^[n] AV).1 (Model.sweep^[n] MV).1 ∧ Is4 b (rSweep^[n] AV).2 (Model.sweep^[n] MV).2 := by
  induction n with
  | zero => exact hAV
  | succ n ih => rw [Function.iterate_succ_apply', Function.iterate_succ_apply']; exact rSweep_real ih

end Cert.Proof.ReferenceIdeal

end
-- ==== Proof.RefAlignValue.lean ====
/-
  The reference's alignment, search and iterations, of one pair of clouds of reals, are the real ones.
-/
module

public import proofs.«01_k».proof.Proof.RefRotValue

@[expose] public section

noncomputable section

namespace Cert.Proof.ReferenceIdeal

open Cert.ReferenceIdeal Cert.ReferenceIdeal.Gen Cert.Proof.Reals Cert.Proof.Words
open Idealize.ShloMosaic Idealize.ShloMosaic.TcCoe Idealize.ShloMosaic.Tactic

set_option maxRecDepth 16384

/-- Pair `b`'s points are those of the cloud `x`; its column of four is the quaternion `r`. -/
def IsCloud (b : Fin 2) (X : FVec Ideal S2x4096x3 .f32) (x : Model.Cloud) : Prop := ∀ n i, X (ix3 b n i) = ((x i n : ℝ) : EReal)
/-- Of pair `b`, the column is the quaternion `r`. -/
def IsQ (b : Fin 2) (q : FVec Ideal S2x4x1 .f32) (r : Model.Quat) : Prop := ∀ i, q (ix3 b i 0) = ((r i : ℝ) : EReal)
/-- Of pair `b`, the row is the vector `r`. -/
def IsV (b : Fin 2) (t : FVec Ideal S2x1x3 .f32) (r : Fin 3 → ℝ) : Prop := ∀ i, t (ix3 b 0 i) = ((r i : ℝ) : EReal)

variable {b : Fin 2} {X Y : FVec Ideal S2x4096x3 .f32} {x y : Model.Cloud}

/-- The mean. -/
theorem rMean_real (h : IsCloud b X x) : IsV b (rMean X) (Model.mean x) := by
  intro i
  pointwise [rMean]
  rw [many]
  simp only [h _ _, sum_real]
  rw [div_real _ (by norm_num)]
  rfl

/-- The cross-covariance. -/
theorem rH_real (hX : IsCloud b X x) (hY : IsCloud b Y y) : Is3 b (rH X Y) (Model.corr x y) := by
  intro i j
  have hx := rMean_real hX
  have hy := rMean_real hY
  pointwise [rH, rCent]
  simp only [hX _ _, hY _ _, hx _, hy _, ← EReal.coe_sub, ← EReal.coe_mul, sum_real]
  rfl

/-- Horn's symmetric 4x4 matrix. -/
theorem rHorn_real {H : FVec Ideal S2x3x3 .f32} {M : Model.M3} (h : Is3 b H M) : Is4 b (rHorn H) (Model.horn M) := by
  intro i j
  pointwise [rHorn, put4, at4, bc4, ri4, ci4, h00, h01, h02, h10, h11, h12, h20, h21, h22]
  simp only [h _ _, ← EReal.coe_zero, ← EReal.coe_add, ← EReal.coe_sub]
  fin_cases i <;> fin_cases j <;> simp [Scalar.select, IntOp.cmpi, IntOp.andi, Model.horn]

/-- The identity, where the sweeps start. -/
theorem eye_real : Is4 b eye Model.eye := by
  intro i j
  pointwise [eye, ri4, ci4]
  rw [select_eq (n := 4) (by decide), ← EReal.coe_one, ← EReal.coe_zero, ← apply_ite (Real.toEReal)]
  rfl

/-- The column at the first greatest diagonal entry. -/
theorem rQuat_real {AV : FVec Ideal S2x4x4 .f32 × FVec Ideal S2x4x4 .f32} {MV : Model.M4 × Model.M4} (hAV : Is4 b AV.1 MV.1 ∧ Is4 b AV.2 MV.2) :
    IsQ b (rQuat AV) (Model.quatOf MV) := by
  intro i
  pointwise [rQuat, ri4, ci4]
  simp only [select_eq (n := 4) (by decide), Finset.sum_ite_eq', Finset.mem_univ, if_true, hAV.1 _ _, neg_inf]
  rw [fold_minsi (n := 4) (by decide) (first_max (Model.top_spec fun j => MV.1 j j)), pick (n := 4) (by decide), hAV.2 _ _]
  rfl

/-- The quaternion of the alignment, its rotation and its shift. -/
theorem rRigid_quat (hX : IsCloud b X x) (hY : IsCloud b Y y) : IsQ b (rQuat (rSweep^[6] (rHorn (rH X Y), eye))) (Model.quat x y) :=
  rQuat_real (rSweeps_real 6 (MV := (Model.horn (Model.corr x y), Model.eye)) ⟨rHorn_real (rH_real hX hY), eye_real⟩)

/-- The rotation of a quaternion. -/
theorem rR_real {q : FVec Ideal S2x4x1 .f32} {r : Model.Quat} (h : IsQ b q r) : Is3 b (rR q) (Model.R r) := by
  intro i j
  pointwise [rR, put3, at3, bc3, ri3, ci3, rDiag, rPlus, rMinus, qw, qx, qy, qz, one1, two1]
  simp only [h _, two]
  fin_cases i <;> fin_cases j <;> simp [Scalar.select, IntOp.cmpi, IntOp.andi, Model.R]

/-- The rotation of the alignment. -/
theorem rRigid_real (hX : IsCloud b X x) (hY : IsCloud b Y y) : Is3 b (rRigid X Y) (Model.R (Model.quat x y)) :=
  rR_real (rRigid_quat hX hY)

/-- The shift of the alignment. -/
theorem rShift_real {A : FVec Ideal S2x3x3 .f32} {r : Model.Quat} (hA : Is3 b A (Model.R r)) (hX : IsCloud b X x) (hY : IsCloud b Y y) :
    IsV b (rShift A X Y) (Model.shift r x y) := by
  intro i
  have hx := rMean_real hX
  have hy := rMean_real hY
  pointwise [rShift]
  simp only [hA _ _, hx _, hy _, Fin.sum_univ_three, ← EReal.coe_mul, ← EReal.coe_add, ← EReal.coe_sub]
  unfold Model.shift
  congr 1
  ring

/-- The moved cloud. -/
theorem rApply_real {A : FVec Ideal S2x3x3 .f32} {t : FVec Ideal S2x1x3 .f32} {r : Model.Quat} {s : Fin 3 → ℝ} (hA : Is3 b A (Model.R r))
    (ht : IsV b t s) (hX : IsCloud b X x) : IsCloud b (rApply A t X) (Model.move r s x) := by
  intro n i
  pointwise [rApply]
  simp only [hA _ _, ht _, hX _ _, Fin.sum_univ_three, ← EReal.coe_mul, ← EReal.coe_add]
  unfold Model.move
  congr 1
  ring

/-- The nearest points. -/
theorem rNearest_real (hX : IsCloud b X x) (hY : IsCloud b Y y) : IsCloud b (rNearest Y X) (Model.nearest x y) := by
  intro n i
  have hd : ∀ m, max (∑ k, X (ix3 b n k) * X (ix3 b n k) + ∑ k, Y (ix3 b m k) * Y (ix3 b m k)
      - Ideal.ofBits FTy.f32 0x40000000#32 * ∑ k, X (ix3 b n k) * Y (ix3 b m k)) 0 = ((Model.dist x y n m : ℝ) : EReal) := fun m => by
    simp only [hX _ _, hY _ _, two, Fin.sum_univ_three, ← EReal.coe_zero, ← EReal.coe_mul, ← EReal.coe_add, ← EReal.coe_sub, max_real]
    rfl
  pointwise [rNearest, k0_pay52]
  simp only [hd, inf]
  rw [fold_minsi (n := 4096) (by decide) (first_min (Model.least_spec (Model.dist x y n))), pick (n := 4096) (by decide), hY _ _]
  rfl

/-- One iteration, and all of them. -/
theorem rStep_real (hY : IsCloud b Y y) (hX : IsCloud b X x) : IsCloud b (rStep Y X) (Model.step y x) := by
  have hg := rNearest_real hX hY
  exact rApply_real (rRigid_real hX hg) (rShift_real (rRigid_real hX hg) hX hg) hX

/-- Any number of iterations. -/
theorem rSteps_real (hY : IsCloud b Y y) (hX : IsCloud b X x) (k : ℕ) : IsCloud b ((rStep Y)^[k] X) ((Model.step y)^[k] x) := by
  induction k with
  | zero => exact hX
  | succ k ih => rw [Function.iterate_succ_apply', Function.iterate_succ_apply']; exact rStep_real hY ih

/-- The rotation and the translation found. -/
theorem rotOut_real (hX : IsCloud b X x) (hY : IsCloud b Y y) : Is3 b (rotOut X Y) (Model.R (Model.quat x (Model.icp y x))) :=
  rRigid_real hX (rSteps_real hY hX 10)

/-- The shift found. -/
theorem transOut_real (hX : IsCloud b X x) (hY : IsCloud b Y y) :
    IsV b (transOut X Y) (Model.shift (Model.quat x (Model.icp y x)) x (Model.icp y x)) :=
  rShift_real (rotOut_real hX hY) hX (rSteps_real hY hX 10)

end Cert.Proof.ReferenceIdeal

end
-- ==== Proof.RefTail.lean ====
/-
  What the reference's host operations after the roots and rows do: the position of the first greatest root, the row
  taken at that position, and the pose put together from the shift and the row.
-/
module

public import proofs.«01_k».proof.Proof.RefAlignValue
public import proofs.«01_k».proof.Proof.RefFrame
public import Idealize.ShloMosaic.Lib.StableHlo.ReadAt
@[expose] public section

noncomputable section

namespace Cert.Proof.ReferenceIdeal

open Cert.ReferenceIdeal Cert.ReferenceIdeal.Gen Cert.Proof.Reals Cert.Proof.Words
open Idealize.ShloMosaic Idealize.ShloMosaic.TcCoe Idealize.ShloMosaic.Tactic
set_option maxRecDepth 16384

/-- The gather that takes one row: at a position in range it reads that row. -/
theorem gather_row {α : Type} (x : S2x4x4.Idx → α) (idx : IVec S2x1x1 32) (b : Fin 2) (l k : Fin 4) (h : idx (ix3 b 0 0) = BitVec.ofNat 32 k.val) :
    Host.gather gather_S2x4x4_S2x1x1_S2x1x4_2_1_0_0_1_2_114 x idx (ix3 b 0 l) = x (ix3 b k l) := by
  unfold Host.gather
  congr 1
  funext a
  apply Fin.ext
  match a with
  | ⟨0, _⟩ =>
    show _ + _ + _ = b.val
    rw [GatherDims.start, dif_neg (by decide +revert), GatherDims.offCoord, dif_neg (by decide +revert)]
    fin_cases b <;> rfl
  | ⟨1, _⟩ =>
    show _ + _ + _ = k.val
    rw [GatherDims.start, dif_pos (by decide +revert), GatherDims.offCoord, dif_neg (by decide +revert), GatherDims.batchCoord, dif_neg (by decide +revert)]
    have e : ∀ c, gather_S2x4x4_S2x1x1_S2x1x4_2_1_0_0_1_2_114.siIdx (ix3 b 0 l) c = ix3 b 0 0 := by
      intro c
      funext i
      match i with
      | ⟨0, _⟩ => exact Fin.ext (by fin_cases b <;> rfl)
      | ⟨1, _⟩ => exact Subsingleton.elim (α := Fin 1) _ _
      | ⟨2, _⟩ => exact Subsingleton.elim (α := Fin 1) _ _
    rw [e, h]
    fin_cases k <;> rfl
  | ⟨2, _⟩ =>
    show _ + _ + _ = l.val
    rw [GatherDims.start, dif_neg (by decide +revert), GatherDims.batchCoord, dif_neg (by decide +revert)]
    fin_cases l <;> rfl
/-- The argmax's step on two numbers: the earlier one stays unless the later one is greater. -/
theorem keep_left {a c : ℝ} {i j : BitVec 32} (hij : IntOp.cmpi .slt i j = 1#1) :
    reducer_argmax_f32_i32 (F := Ideal) ((a : EReal), i) ((c : EReal), j) = if c ≤ a then ((a : EReal), i) else ((c : EReal), j) := by
  simp only [reducer_argmax_f32_i32, hij, FloatOps.cmpf, Ideal.cmp, EReal.coe_lt_coe_iff, EReal.coe_eq_coe_iff]
  rcases lt_trichotomy a c with h | h | h
  · simp [h, h.ne, h.not_gt, h.not_ge, IntOp.ori, IntOp.andi, Scalar.select]
  · simp [h, IntOp.ori, IntOp.andi, Scalar.select]
  · simp [h, h.ne', h.le, IntOp.ori, IntOp.andi, Scalar.select]

/-- The argmax's first step takes the first number. -/
theorem keep_first {c : ℝ} : reducer_argmax_f32_i32 (F := Ideal) (⊥, 0#32) ((c : EReal), 0#32) = ((c : EReal), 0#32) := by
  have h : (⊥ : EReal) < (c : EReal) := EReal.bot_lt_coe c
  simp [reducer_argmax_f32_i32, FloatOps.cmpf, Ideal.cmp, h.ne, h.not_gt, IntOp.ori, IntOp.andi, Scalar.select]

/-- The argmax of four numbers is the position of the first greatest. -/
theorem argmax_real {f : S2x4.Idx → EReal} {r : Fin 4 → ℝ} {k : Fin 4} (b : Fin 2) (h : ∀ j, f (ix2 b j) = ((r j : ℝ) : EReal)) (hk : Model.IsTop r k) :
    (Host.argReduce (F := Ideal) (φ := .f32) reducer_argmax_f32_i32 f (iotaInDim S2x4 32 1)
        (constant S_ FTy.f32 4286578688#32) (constantI S_ 32 0#32) reducesTo_S2x4_S2_d1 h_S_ (ix1 b)).2 = BitVec.ofNat 32 k.val := by
  rw [Ideal.argReduce_eq_reduce2, Host.reduce2_eq_foldl_fiber]
  have e : Host.argReduceFiber f (iotaInDim S2x4 32 1) reducesTo_S2x4_S2_d1 (ix1 b) =
      [(((r 0 : ℝ) : EReal), 0#32), (((r 1 : ℝ) : EReal), 1#32), (((r 2 : ℝ) : EReal), 2#32), (((r 3 : ℝ) : EReal), 3#32)] := by
    rw [← h, ← h, ← h, ← h]
    unfold Host.argReduceFiber
    have e : ((List.finRange S2x4.numel).filter fun n => reducesTo_S2x4_S2_d1.drop (S2x4.rowMajor.symm n) = ix1 b)
        = [S2x4.rowMajor (ix2 b 0), S2x4.rowMajor (ix2 b 1), S2x4.rowMajor (ix2 b 2), S2x4.rowMajor (ix2 b 3)] := by
      fin_cases b <;> decide +kernel
    rw [e]
    simp only [List.map_cons, List.map_nil, Equiv.symm_apply_apply]
    rfl
  have e0 : (constant (F := Ideal) S_ FTy.f32 4286578688#32 (Shape.Idx.first h_S_), constantI S_ 32 0#32 (Shape.Idx.first h_S_)) = ((⊥ : EReal), 0#32) :=
    Prod.ext neg_inf rfl
  rw [e, e0]
  simp only [List.foldl_cons, List.foldl_nil, keep_first]
  have hf : ∀ j : Fin 4, Model.IsTop r j → BitVec.ofNat 32 j.val = BitVec.ofNat 32 k.val := fun j hj => by rw [hj.unique hk]
  have first : ∀ j : Fin 4, (∀ i, i < j → r i < r j) → (∀ i, r i ≤ r j) → Model.IsTop r j := fun j h1 h2 =>
    ⟨h2, fun i hi => not_lt.mp fun hlt => absurd (hi j) (not_le.mpr (h1 i hlt))⟩
  rw [keep_left (by decide)]
  have fst : ∀ j : Fin 4, ((0 < j → r 0 < r j) ∧ (1 < j → r 1 < r j) ∧ (2 < j → r 2 < r j)) → (r 0 ≤ r j ∧ r 1 ≤ r j ∧ r 2 ≤ r j ∧ r 3 ≤ r j) →
      BitVec.ofNat 32 j.val = BitVec.ofNat 32 k.val := fun j h1 h2 => by
    refine hf j (first j (fun i hi => ?_) (fun i => ?_))
    · fin_cases i
      · exact h1.1 hi
      · exact h1.2.1 hi
      · exact h1.2.2 hi
      · exact absurd hi (not_lt.mpr (Fin.le_last j))
    · fin_cases i
      exacts [h2.1, h2.2.1, h2.2.2.1, h2.2.2.2]
  split_ifs with h1 <;> rw [keep_left (by decide)] <;> split_ifs with h2 <;> rw [keep_left (by decide)] <;> split_ifs with h3
  · exact fst 0 (by simp) (by refine ⟨?_, ?_, ?_, ?_⟩ <;> linarith)
  · exact fst 3 (by refine ⟨fun _ => ?_, fun _ => ?_, fun _ => ?_⟩ <;> linarith) (by refine ⟨?_, ?_, ?_, ?_⟩ <;> linarith)
  · exact fst 2 (by refine ⟨fun _ => ?_, fun _ => ?_, fun h => absurd h (lt_irrefl _)⟩ <;> linarith) (by refine ⟨?_, ?_, ?_, ?_⟩ <;> linarith)
  · exact fst 3 (by refine ⟨fun _ => ?_, fun _ => ?_, fun _ => ?_⟩ <;> linarith) (by refine ⟨?_, ?_, ?_, ?_⟩ <;> linarith)
  · exact fst 1 (by refine ⟨fun _ => ?_, fun h => absurd h (lt_irrefl _), fun h => absurd h (by decide)⟩ <;> linarith) (by refine ⟨?_, ?_, ?_, ?_⟩ <;> linarith)
  · exact fst 3 (by refine ⟨fun _ => ?_, fun _ => ?_, fun _ => ?_⟩ <;> linarith) (by refine ⟨?_, ?_, ?_, ?_⟩ <;> linarith)
  · exact fst 2 (by refine ⟨fun _ => ?_, fun _ => ?_, fun h => absurd h (lt_irrefl _)⟩ <;> linarith) (by refine ⟨?_, ?_, ?_, ?_⟩ <;> linarith)
  · exact fst 3 (by refine ⟨fun _ => ?_, fun _ => ?_, fun _ => ?_⟩ <;> linarith) (by refine ⟨?_, ?_, ?_, ?_⟩ <;> linarith)

variable (V : Valuation τ sig (Elt Ideal))

/-- The row taken. -/
theorem take_row (b : Fin 2) (l k : Fin 4) (h : V (Proc.devRef .tc main_v101) (ix3 b 0 0) = BitVec.ofNat 32 k.val) :
    StableHlo.after (hostOps1_3 (F := Ideal)) V (Proc.devRef .tc main_v102) (ix3 b 0 l) = V (Proc.devRef .tc main_v99) (ix3 b k l) := by
  after_reads_at
  rw [gather_row _ _ b l k]
  · have e : (Finset.univ : Finset (Fin 1)) = {0} := rfl
    rw [e, Finset.fold_singleton, h]
    fin_cases k <;> rfl
  · pointwise
    rw [h]
    fin_cases k <;> rfl

/-- The choice, reshaped to pick a row by. -/
theorem pick_word (b : Fin 2) : StableHlo.after (hostOps1_2 (F := Ideal)) V (Proc.devRef .tc main_v101) (ix3 b 0 0) = V (Proc.devRef .tc main_v100) (ix1 b) := by
  after_reads_at

/-- The choice is the first greatest root. -/
theorem argmax_word {r : Fin 4 → ℝ} {k : Fin 4} (b : Fin 2) (h : ∀ j, V (Proc.devRef .tc main_v43) (ix2 b j) = ((r j : ℝ) : EReal)) (hk : Model.IsTop r k) :
    StableHlo.after (hostOps1_1 (F := Ideal)) V (Proc.devRef .tc main_v100) (ix1 b) = BitVec.ofNat 32 k.val := by
  after_reads_at
  exact argmax_real b h hk

/-- The pose's entries: three of the shift, then the row's last three, then its first. -/
theorem out_shift (b : Fin 2) (i : Fin 3) :
    StableHlo.after (hostOps1_4 (F := Ideal)) V (Proc.devRef .tc main_v107) (ix2 b ⟨i.val, by omega⟩) = V (Proc.devRef .tc main_v1) (ix2 b i) := by
  fin_cases i <;> (after_reads_at; repeat after_reads_at)

/-- The next three are the chosen row's last three. -/
theorem out_quat (b : Fin 2) (i : Fin 3) :
    StableHlo.after (hostOps1_4 (F := Ideal)) V (Proc.devRef .tc main_v107) (ix2 b ⟨i.val + 3, by omega⟩) = V (Proc.devRef .tc main_v102) (ix3 b 0 i.succ) := by
  fin_cases i <;> (after_reads_at; repeat after_reads_at) <;> rfl

/-- The last is the chosen row's first. -/
theorem out_real (b : Fin 2) :
    StableHlo.after (hostOps1_4 (F := Ideal)) V (Proc.devRef .tc main_v107) (ix2 b (6 : Fin 7)) = V (Proc.devRef .tc main_v102) (ix3 b 0 0) := by
  after_reads_at; repeat after_reads_at

end Cert.Proof.ReferenceIdeal

end
-- ==== Proof.QuatRow.lean ====
/-
  A unit quaternion out of its rotation, over the real numbers: the four numbers `4 q²` under a small floor, the first
  greatest of their roots, and the row of products under it.
-/
module

public import proofs.«01_k».proof.Proof.Model

@[expose] public section

noncomputable section

namespace Cert.Proof.Model

/-- Twice the size of the entry `k`, with the floor `ε` under its square. -/
def root (ε : ℝ) (q : Quat) (k : Fin 4) : ℝ := √(max (4 * (q k * q k)) ε)

/-- The row `k` of products, over twice the root with the floor `τ` under it. -/
def quatRow (ε τ : ℝ) (q : Quat) (k l : Fin 4) : ℝ := (if k = l then root ε q k * root ε q k else 4 * (q k * q l)) / (2 * max (root ε q k) τ)

variable {q : Quat} {ε τ : ℝ}

/-- The greatest entry of a unit quaternion has a square of at least a quarter. -/
theorem quarter_le (hq : ∑ i, q i * q i = 1) {k : Fin 4} (hk : ∀ j, |q j| ≤ |q k|) : 1 ≤ 4 * (q k * q k) := by
  rw [← hq]
  calc ∑ i, q i * q i ≤ ∑ _i : Fin 4, q k * q k := Finset.sum_le_sum fun i _ => by
        rw [← abs_mul_abs_self (q i), ← abs_mul_abs_self (q k)]
        exact mul_self_le_mul_self (abs_nonneg _) (hk i)
    _ = 4 * (q k * q k) := by simp

/-- Where the floor does not matter the root is twice the size. -/
theorem root_eq (hε : ε < 1) {k : Fin 4} (h : 1 ≤ 4 * (q k * q k)) : root ε q k = 2 * |q k| := by
  rw [root, max_eq_left (by linarith), show 4 * (q k * q k) = (2 * |q k|) * (2 * |q k|) by
    rw [mul_mul_mul_comm, abs_mul_abs_self]; norm_num]
  exact Real.sqrt_mul_self (by positivity)

/-- The floored roots keep the order of the entries' sizes. -/
theorem root_mono {j k : Fin 4} (h : |q j| ≤ |q k|) : root ε q j ≤ root ε q k := by
  refine Real.sqrt_le_sqrt (max_le_max_right _ ?_)
  rw [← abs_mul_abs_self (q j), ← abs_mul_abs_self (q k)]
  have := mul_self_le_mul_self (abs_nonneg _) h
  linarith

/-- The first greatest root is at the first greatest entry. -/
theorem top_root (hq : ∑ i, q i * q i = 1) (hε : ε < 1) : IsTop (root ε q) (top fun j => |q j|) := by
  have hk := top_spec fun j => |q j|
  set k := top fun j => |q j|
  have h1 := quarter_le hq hk.1
  refine ⟨fun j => root_mono (hk.1 j), fun j hj => hk.2 j fun i => le_trans (hk.1 i) ?_⟩
  have h2 : (1 : ℝ) ≤ max (4 * (q j * q j)) ε := by
    by_contra h
    have h3 : root ε q j < root ε q k := Real.sqrt_lt_sqrt (le_trans (by nlinarith [mul_self_nonneg (q j)]) (le_max_left _ _))
      (lt_of_lt_of_le (not_le.mp h) (le_trans h1 (le_max_left _ _)))
    exact absurd (hj k) (not_le.mpr h3)
  have h4 : 1 ≤ 4 * (q j * q j) := by
    rcases le_max_iff.mp h2 with h | h
    · exact h
    · linarith
  have h5 := hj k
  rw [root_eq hε h1, root_eq hε h4] at h5
  show |q k| ≤ |q j|
  linarith

/-- The row under it is the quaternion with its sign. -/
theorem quatRow_top (hq : ∑ i, q i * q i = 1) (hε : ε < 1) (hτ : τ ≤ 1) (l : Fin 4) :
    quatRow ε τ q (top fun j => |q j|) l = signed q l := by
  have hk := top_spec fun j => |q j|
  have h1 := quarter_le hq hk.1
  rw [quatRow, signed, root_eq hε h1]
  set k := top fun j => |q j|
  have e : (if k = l then 2 * |q k| * (2 * |q k|) else 4 * (q k * q l)) = 4 * (q k * q l) := by
    split_ifs with h
    · rw [← h, ← abs_mul_abs_self (q k)]; ring
    · rfl
  have h2 : 1 ≤ 2 * |q k| := by
    rw [← abs_mul_abs_self] at h1
    nlinarith [abs_nonneg (q k)]
  rw [e, max_eq_left (by linarith)]
  split_ifs with h
  · rw [abs_of_neg h, div_eq_iff (by linarith)]; ring
  · have h3 : q k ≠ 0 := fun h0 => by rw [h0] at h1; linarith
    rw [abs_of_nonneg (not_lt.mp h), div_eq_iff (by positivity)]; ring

/-- The entries of the rotation that the four numbers and the rows are made of. -/
theorem R_sums (hq : ∑ i, q i * q i = 1) :
    1 + R q 0 0 + R q 1 1 + R q 2 2 = 4 * (q 0 * q 0) ∧ 1 + R q 0 0 - R q 1 1 - R q 2 2 = 4 * (q 1 * q 1)
    ∧ 1 - R q 0 0 + R q 1 1 - R q 2 2 = 4 * (q 2 * q 2) ∧ 1 - R q 0 0 - R q 1 1 + R q 2 2 = 4 * (q 3 * q 3) := by
  rw [Fin.sum_univ_four] at hq
  refine ⟨?_, ?_, ?_, ?_⟩ <;> simp only [R, Matrix.cons_val] <;> linarith

end Cert.Proof.Model

end
-- ==== Proof.RefQuatValue.lean ====
/-
  What the reference's host operations make of a rotation and a shift, up to the roots and the rows of products.
-/
module

public import proofs.«01_k».proof.Proof.RefTail
public import proofs.«01_k».proof.Proof.QuatRow
@[expose] public section
noncomputable section
namespace Cert.Proof.ReferenceIdeal
open Cert.ReferenceIdeal Cert.ReferenceIdeal.Gen Cert.Proof.Reals Cert.Proof.Words
open Idealize.ShloMosaic Idealize.ShloMosaic.TcCoe Idealize.ShloMosaic.Tactic
set_option maxRecDepth 16384

/-- The floor under the squares: a billionth of a thousandth, as a word has it. -/
def floor0 : ℝ := 9223372 / 9223372036854775808
/-- The floor under the roots: a tenth, as a word has it. -/
def floor1 : ℝ := 13421773 / 134217728

/-- The word of the floor under the root. -/
theorem floor0_word : Ideal.ofBits .f32 0x2B8CBCCC#32 = ((floor0 : ℝ) : EReal) := by
  rw [floor0]
  simp [Ideal.ofBits, Ideal.ieee, -EReal.coe_mul]; norm_num
/-- The word of the floor under the division. -/
theorem floor1_word : Ideal.ofBits .f32 0x3DCCCCCD#32 = ((floor1 : ℝ) : EReal) := by
  rw [floor1]
  simp [Ideal.ofBits, Ideal.ieee, -EReal.coe_mul]; norm_num

variable (V : Valuation τ sig (Elt Ideal)) {q : Model.Quat} {b : Fin 2}

/-- The four roots. -/
theorem root_real (hq : ∑ i, q i * q i = 1) (h : Is3 b (V (Proc.devRef .tc main_v0_0)) (Model.R q)) (k : Fin 4) :
    StableHlo.after (hostOps1 (F := Ideal)) V (Proc.devRef .tc main_v43) (ix2 b k) = ((Model.root floor0 q k : ℝ) : EReal) := by
  obtain ⟨s0, s1, s2, s3⟩ := Model.R_sums hq
  fin_cases k <;>
  · after_reads_at
    repeat after_reads_at
    simp only [h _ _, floor0_word, ← EReal.coe_one, ← EReal.coe_add, ← EReal.coe_sub, max_real, s0, s1, s2, s3]
    exact sqrt_real (le_trans (by norm_num [floor0]) (le_max_right _ _))

/-- The sums and differences of the rotation's entries across its diagonal. -/
theorem R_pairs (q : Model.Quat) :
    Model.R q 2 1 - Model.R q 1 2 = 4 * (q 0 * q 1) ∧ Model.R q 0 2 - Model.R q 2 0 = 4 * (q 0 * q 2) ∧ Model.R q 1 0 - Model.R q 0 1 = 4 * (q 0 * q 3)
    ∧ Model.R q 1 0 + Model.R q 0 1 = 4 * (q 1 * q 2) ∧ Model.R q 0 2 + Model.R q 2 0 = 4 * (q 1 * q 3) ∧ Model.R q 1 2 + Model.R q 2 1 = 4 * (q 2 * q 3)
    ∧ Model.R q 2 1 + Model.R q 1 2 = 4 * (q 2 * q 3) := by
  refine ⟨?_, ?_, ?_, ?_, ?_, ?_, ?_⟩ <;> simp only [Model.R, Matrix.cons_val] <;> ring

set_option maxHeartbeats 4000000 in
/-- The four rows of products, each over its root. -/
theorem row_real (hq : ∑ i, q i * q i = 1) (h : Is3 b (V (Proc.devRef .tc main_v0_0)) (Model.R q)) (k l : Fin 4) :
    StableHlo.after (hostOps1 (F := Ideal)) V (Proc.devRef .tc main_v99) (ix3 b k l) = ((Model.quatRow floor0 floor1 q k l : ℝ) : EReal) := by
  obtain ⟨s0, s1, s2, s3⟩ := Model.R_sums hq
  obtain ⟨p0, p1, p2, p3, p4, p5, p6⟩ := R_pairs q
  have hd : ∀ k, 2 * max (Model.root floor0 q k) floor1 ≠ 0 := fun k => by
    have : 0 < max (Model.root floor0 q k) floor1 := lt_of_lt_of_le (by norm_num [floor1]) (le_max_right _ _)
    positivity
  have hs : ∀ k : Fin 4, Ideal.sqrt ((max (4 * (q k * q k)) floor0 : ℝ) : EReal) = ((Model.root floor0 q k : ℝ) : EReal) := fun k =>
    sqrt_real (le_trans (by norm_num [floor0]) (le_max_right _ _))
  fin_cases k <;> fin_cases l <;>
  · after_reads_at
    repeat after_reads_at
    simp only [h _ _, floor0_word, floor1_word, two, ← EReal.coe_one, ← EReal.coe_add, ← EReal.coe_sub, max_real, s0, s1, s2, s3, p0, p1, p2, p3, p4, p5, p6, hs, ← EReal.coe_mul]
    rw [div_real _ (hd _)]
    rw [EReal.coe_eq_coe_iff, Model.quatRow]
    congr 1
    all_goals simp
    all_goals ring

/-- The shifts, reshaped. -/
theorem shift_word {t : Fin 3 → ℝ} (h : IsV b (V (Proc.devRef .tc main_v0_1)) t) (i : Fin 3) :
    StableHlo.after (hostOps1 (F := Ideal)) V (Proc.devRef .tc main_v1) (ix2 b i) = ((t i : ℝ) : EReal) := by
  after_reads_at
  exact h i

end Cert.Proof.ReferenceIdeal

end
-- ==== Proof.RefTailValue.lean ====
/-
  The reference's pose from its region's rotation and shift.
-/
module

public import proofs.«01_k».proof.Proof.RefQuatValue

@[expose] public section

noncomputable section

namespace Cert.Proof.ReferenceIdeal

open Cert.ReferenceIdeal Cert.ReferenceIdeal.Gen Cert.Proof.Reals Cert.Proof.Words
open Idealize.ShloMosaic Idealize.ShloMosaic.TcCoe Idealize.ShloMosaic.Tactic

set_option maxRecDepth 16384

/-- A line of operations after another. -/
theorem after_two (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons o l ih => exact ih _

/-- All the host operations after the region. -/
abbrev tail : List (List (HloOp τ sig (Elt Ideal))) := [hostOps1, hostOps1_1, hostOps1_2, hostOps1_3, hostOps1_4]

/-- The pose that a shift and a quaternion make. -/
def poseOf (t : Fin 3 → ℝ) (q : Model.Quat) : Fin 7 → ℝ :=
  ![t 0, t 1, t 2, Model.signed q 1, Model.signed q 2, Model.signed q 3, Model.signed q 0]

variable {V : Valuation τ sig (Elt Ideal)} {q : Model.Quat} {t : Fin 3 → ℝ} {b : Fin 2}

/-- The operations after the region, one stretch after the other. -/
theorem tail_eq : StableHlo.after tail.flatten V
    = StableHlo.after hostOps1_4 (StableHlo.after hostOps1_3 (StableHlo.after hostOps1_2 (StableHlo.after hostOps1_1 (StableHlo.after hostOps1 V)))) := by
  rw [show tail.flatten = hostOps1 ++ (hostOps1_1 ++ (hostOps1_2 ++ (hostOps1_3 ++ (hostOps1_4 ++ [])))) from rfl, after_two, after_two, after_two, after_two, after_two]
  rfl

/-- The candidate rows are kept while the choice is made. -/
theorem keep1 (W : Valuation τ sig (Elt Ideal)) (j : S2x4x4.Idx) :
    StableHlo.after hostOps1_2 (StableHlo.after hostOps1_1 W) (Proc.devRef .tc main_v99) j = W (Proc.devRef .tc main_v99) j := by
  after_reads_at

/-- The shifts are kept to the end. -/
theorem keep2 (W : Valuation τ sig (Elt Ideal)) (j : S2x3.Idx) :
    StableHlo.after hostOps1_3 (StableHlo.after hostOps1_2 (StableHlo.after hostOps1_1 W)) (Proc.devRef .tc main_v1) j = W (Proc.devRef .tc main_v1) j := by
  after_reads_at

/-- The quaternion's row, taken. -/
theorem row_taken (hq : ∑ i, q i * q i = 1) (h : Is3 b (V (Proc.devRef .tc main_v0_0)) (Model.R q)) (l : Fin 4) :
    StableHlo.after hostOps1_3 (StableHlo.after hostOps1_2 (StableHlo.after hostOps1_1 (StableHlo.after hostOps1 V))) (Proc.devRef .tc main_v102) (ix3 b 0 l)
      = ((Model.signed q l : ℝ) : EReal) := by
  rw [take_row _ b l (Model.top fun j => |q j|) ?_, keep1, row_real V hq h, Model.quatRow_top hq (by norm_num [floor0]) (by norm_num [floor1])]
  rw [pick_word]
  exact argmax_word _ b (root_real V hq h) (Model.top_root hq (by norm_num [floor0]))

/-- The pose. -/
theorem tail_real (hq : ∑ i, q i * q i = 1) (h : Is3 b (V (Proc.devRef .tc main_v0_0)) (Model.R q)) (ht : IsV b (V (Proc.devRef .tc main_v0_1)) t) (i : Fin 7) :
    StableHlo.after tail.flatten V (Proc.devRef .tc main_v107) (ix2 b i) = ((poseOf t q i : ℝ) : EReal) := by
  rw [tail_eq]
  have hs : ∀ i : Fin 3, StableHlo.after hostOps1_4 (StableHlo.after hostOps1_3 (StableHlo.after hostOps1_2 (StableHlo.after hostOps1_1 (StableHlo.after hostOps1 V))))
      (Proc.devRef .tc main_v107) (ix2 b ⟨i.val, by omega⟩) = ((t i : ℝ) : EReal) := fun i => by rw [out_shift, keep2, shift_word V ht]
  have hr : ∀ i : Fin 3, StableHlo.after hostOps1_4 (StableHlo.after hostOps1_3 (StableHlo.after hostOps1_2 (StableHlo.after hostOps1_1 (StableHlo.after hostOps1 V))))
      (Proc.devRef .tc main_v107) (ix2 b ⟨i.val + 3, by omega⟩) = ((Model.signed q i.succ : ℝ) : EReal) := fun i => by rw [out_quat, row_taken hq h]
  fin_cases i
  · exact hs 0
  · exact hs 1
  · exact hs 2
  · exact hr 0
  · exact hr 1
  · exact hr 2
  · exact (out_real _ b).trans (row_taken hq h 0)

end Cert.Proof.ReferenceIdeal

end
-- ==== Proof.RefResult.lean ====
/-
  The result of the whole reference, of clouds of reals: the poses.
-/
module

public import proofs.«01_k».proof.Proof.RefTailValue
public import Idealize.ShloMosaic.Lib.Pipeline.ValueKit

@[expose] public section

noncomputable section

namespace Cert.Proof.ReferenceIdeal

open Cert.ReferenceIdeal Cert.ReferenceIdeal.Gen Cert.Proof.Reals Cert.Proof.Words
open Idealize.ShloMosaic Idealize.ShloMosaic.TcCoe Idealize.ShloMosaic.Tactic Idealize.SL.Sem
open Idealize.ShloMosaic.Pipeline (Dat Cfg Window)

set_option maxRecDepth 16384

variable (m : (ℓ : Loc nD τ sig) → Buf (Elt Ideal) ℓ) (c : Dev nD)

/-- The one block of each input is the whole argument. -/
theorem iblk_0 (t : Fin cfg0.N) : (iblk m c 0 t : FVec Ideal S2x4096x3 .f32) = m ((c.tc : Thread nD τ).loc main_arg0) := by
  funext j
  blk_simp [iblk]
  refine congrArg (m ((c.tc : Thread nD τ).loc main_arg0)) (funext fun a => Fin.ext ?_)
  blk_simp
  rw [show win0_0.index t a = 0 from rfl, Nat.zero_mul, Nat.zero_add]

/-- So is the targets'. -/
theorem iblk_1 (t : Fin cfg0.N) : (iblk m c 1 t : FVec Ideal S2x4096x3 .f32) = m ((c.tc : Thread nD τ).loc main_arg1) := by
  funext j
  blk_simp [iblk]
  refine congrArg (m ((c.tc : Thread nD τ).loc main_arg1)) (funext fun a => Fin.ext ?_)
  blk_simp
  rw [show win0_1.index t a = 0 from rfl, Nat.zero_mul, Nat.zero_add]

/-- The region's results. -/
theorem arr_2 : (dats m 0 c).arrAt 2 cfg0.N = rotOut (F := Ideal) (m ((c.tc : Thread nD τ).loc main_arg0)) (m ((c.tc : Thread nD τ).loc main_arg1)) := by
  refine (dats m 0 c).arrAt_eq_of_after_last 2 ⟨0, by decide⟩ (by decide +kernel) _ fun j => ?_
  rw [after0_2, iblk_0, iblk_1]
  rfl

/-- The shifts that the region leaves. -/
theorem arr_3 : (dats m 0 c).arrAt 3 cfg0.N = transOut (F := Ideal) (m ((c.tc : Thread nD τ).loc main_arg0)) (m ((c.tc : Thread nD τ).loc main_arg1)) := by
  refine (dats m 0 c).arrAt_eq_of_after_last 3 ⟨0, by decide⟩ (by decide +kernel) _ fun j => ?_
  rw [after0_3, iblk_0, iblk_1]
  rfl

/-- What the buffers hold once the region has run. -/
abbrev exitV : Valuation τ sig (Elt Ideal) := Pipeline.withArrays (cfgs 0).spec c (V0 m c) fun w => (dats m 0 c).arrAt w (cfgs 0).N

/-- The rotations' array then. -/
theorem exit_rot : exitV m c (Proc.devRef .tc main_v0_0) = rotOut (F := Ideal) (m ((c.tc : Thread nD τ).loc main_arg0)) (m ((c.tc : Thread nD τ).loc main_arg1)) :=
  (Pipeline.withArrays_arr (cfgs 0).spec (by decide) c (V0 m c) _ 2).trans (arr_2 m c)

/-- The shifts' array then. -/
theorem exit_shift : exitV m c (Proc.devRef .tc main_v0_1) = transOut (F := Ideal) (m ((c.tc : Thread nD τ).loc main_arg0)) (m ((c.tc : Thread nD τ).loc main_arg1)) :=
  (Pipeline.withArrays_arr (cfgs 0).spec (by decide) c (V0 m c) _ 3).trans (arr_3 m c)

/-- The poses, of clouds of reals. -/
theorem result_real {b : Fin 2} {x y : Model.Cloud} (hx : IsCloud b (m ((c.tc : Thread nD τ).loc main_arg0)) x)
    (hy : IsCloud b (m ((c.tc : Thread nD τ).loc main_arg1)) y) (i : Fin 7) :
    Pipeline.afterTail₀ cfgs (dats m) 0 (V0 m) tail c main_v107 (ix2 b i) = ((Model.pose x y i : ℝ) : EReal) := by
  refine (tail_real (V := exitV m c) (b := b) (Model.quat_unit x (Model.icp y x)) ?_ ?_ i)
  · rw [exit_rot]; exact rotOut_real hx hy
  · rw [exit_shift]; exact transOut_real hx hy

end Cert.Proof.ReferenceIdeal

end
-- ==== Proof.Algebraic.lean ====
/-
  The kernel and the reference end with the same poses, of arguments all of whose coordinates are reals.
-/
module

public import proofs.«01_k».proof.Defs
public import proofs.«01_k».proof.Proof.Finite
public import proofs.«01_k».proof.Proof.KernelResult
public import proofs.«01_k».proof.Proof.RefResult

@[expose] public section

noncomputable section

namespace Cert.Proof

open Idealize.ShloMosaic Idealize.ShloMosaic.TcCoe Idealize.SL.Sem

/-- The kernel ends with the buffer of its result as its last operations leave it, and its arguments as they were. -/
theorem KernelIdeal.ends (m : (ℓ : Loc Cert.KernelIdeal.nD Cert.KernelIdeal.τ Cert.KernelIdeal.sig) → Buf (Elt Ideal) ℓ)
    (ρ : Dev Cert.KernelIdeal.nD → PrngReg) : open Cert.KernelIdeal Cert.KernelIdeal.Gen in
    θ_run defs (onTc (τ := τ) (main (F := Ideal))) ⟨m, fun _ => 0, ρ⟩ (fun r => ∀ c : Dev nD,
      r.2.mem ((c.tc : Thread nD τ).loc main_v4) = Pipeline.afterTail₀ cfgs (dats m) 0 (V0 m) [hostOps1] c main_v4
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  open Cert.KernelIdeal Cert.KernelIdeal.Gen in
  exact (θ_run defs _ _).mono (fun _ h c =>
    ⟨(h.1 c).2 main_v4 (Pipeline.mem_restRefs_of main_v4 (by decide) (by decide)),
      ((h.1 c).2 main_arg0 (Pipeline.mem_restRefs_of main_arg0 (by decide) (by decide))).trans (W_main_arg0 m (dats m) c),
      ((h.1 c).1 1).trans (((dats m 0 c).arrAt_in 1 rfl _).trans (V_main_arg1 m c))⟩) (run_main m ρ)

/-- The reference ends with the buffer of its result as its last operations leave it, and its arguments as they were. -/
theorem ReferenceIdeal.ends (m : (ℓ : Loc Cert.ReferenceIdeal.nD Cert.ReferenceIdeal.τ Cert.ReferenceIdeal.sig) → Buf (Elt Ideal) ℓ)
    (ρ : Dev Cert.ReferenceIdeal.nD → PrngReg) : open Cert.ReferenceIdeal Cert.ReferenceIdeal.Gen in
    θ_run defs (onTc (τ := τ) (main (F := Ideal))) ⟨m, fun _ => 0, ρ⟩ (fun r => ∀ c : Dev nD,
      r.2.mem ((c.tc : Thread nD τ).loc main_v107) = Pipeline.afterTail₀ cfgs (dats m) 0 (V0 m) tail c main_v107
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  open Cert.ReferenceIdeal Cert.ReferenceIdeal.Gen in
  exact (θ_run defs _ _).mono (fun _ h c =>
    ⟨(h.1 c).2 main_v107 (Pipeline.mem_restRefs_of main_v107 (by decide) (by decide)),
      ((h.1 c).1 0).trans (((dats m 0 c).arrAt_in 0 rfl _).trans (V_main_arg0 m c)),
      ((h.1 c).1 1).trans (((dats m 0 c).arrAt_in 1 rfl _).trans (V_main_arg1 m c))⟩) (run_main m ρ)

/-- Equal results: from memories that agree on the arguments, all reals, both programs end with the poses of the same
    clouds. -/
theorem algebraic : Cert.algebraic_KernelIdeal_ReferenceIdeal_pre_finite (hKernelIdeal := Cert.KernelIdeal.Gen.facts)
    (hReferenceIdeal := Cert.ReferenceIdeal.Gen.facts) (hPre_finite := Finite.facts) := by
  intro m g m' g' hpre hargs
  refine ⟨_, KernelIdeal.ends m g, (θ_run _ _ _).mono (fun r h c => ⟨(h c).1.trans ?_, (h c).2⟩) (ReferenceIdeal.ends m' g')⟩
  letI := Finite.facts
  obtain ⟨hX, hY⟩ := Finite.reals (hpre c)
  choose x hx using hX
  choose y hy using hY
  funext j
  obtain ⟨b, i, rfl⟩ : ∃ (b : Fin 2) (i : Fin 7), j = ix2 b i := ⟨j 0, j 1, (ix2_eta j).symm⟩
  rw [ReferenceIdeal.result_real m' c (b := b) (x := fun i n => x (ix3 b n i)) (y := fun i n => y (ix3 b n i))
      (fun n i => (congrFun (hargs c).1 _).trans (hx _)) (fun n i => (congrFun (hargs c).2 _).trans (hy _)) i]
  exact (KernelIdeal.result_real m c (b := b) (fun n i => hx (ix3 b n i)) (fun n i => hy (ix3 b n i)) i).symm

end Cert.Proof

end
-- ==== Proof.lean ====
module

public import proofs.«01_k».proof.Defs
public import proofs.«01_k».proof.Proof.KernelFrame
public import proofs.«01_k».proof.Proof.KernelIdealFrame
public import proofs.«01_k».proof.Proof.RefFrame
public import proofs.«01_k».proof.Proof.Algebraic

@[expose] public section

noncomputable section

open Idealize.ShloMosaic

namespace Cert.Proof

/-- The one rewrite from the kernel to its idealised form: the constant `far` stands for `⊤`, which is what the
certificate's table gives it. -/
theorem preserves : Cert.preserves_Kernel_KernelIdeal :=
  IdealRules.named_const.statement Cert.KernelIdeal.κ "far" .f32 0x7149F2CA#32 ⊤ rfl

/-- Everything the certificate claims. -/
theorem claim : Cert.Claim :=
  ⟨Cert.Kernel.Gen.facts, Cert.KernelIdeal.Gen.facts, Cert.ReferenceIdeal.Gen.facts, Finite.facts,
    fun m g _ => Kernel.frame m g,
    fun m g _ => KernelIdeal.frame m g,
    fun m g _ => KernelIdeal.frame m g,
    fun m g _ => ReferenceIdeal.frame m g,
    fun m g _ => ReferenceIdeal.frame m g,
    preserves, algebraic⟩

end Cert.Proof

end
